-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 4096]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = Layout.block ⟨2, ![32, 256]⟩ ⟨2, ![256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S256x512 : Shape := ⟨2, ![256, 512]⟩
abbrev S512x256 : Shape := ⟨2, ![512, 256]⟩
abbrev S32x256 : Shape := ⟨2, ![32, 256]⟩
abbrev S12x128x256 : Shape := ⟨3, ![12, 128, 256]⟩
abbrev S7x32x256 : Shape := ⟨3, ![7, 32, 256]⟩
abbrev S12 : Shape := ⟨1, ![12]⟩
abbrev S7 : Shape := ⟨1, ![7]⟩
abbrev S_ : Shape := ⟨0, ![]⟩
abbrev S128x256 : Shape := ⟨2, ![128, 256]⟩
abbrev S128x512 : Shape := ⟨2, ![128, 512]⟩
abbrev S1x128x256 : Shape := ⟨3, ![1, 128, 256]⟩
abbrev S1 : Shape := ⟨1, ![1]⟩
abbrev S1x32x256 : Shape := ⟨3, ![1, 32, 256]⟩

abbrev nBuf : Space → Nat
  | .hbm => 15
  | .vmem => 13
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S256x256, .bf16⟩
  | .hbm, ⟨8, _⟩ => ⟨S256x512, .bf16⟩
  | .hbm, ⟨9, _⟩ => ⟨S512x256, .bf16⟩
  | .hbm, ⟨10, _⟩ => ⟨S256x512, .bf16⟩
  | .hbm, ⟨11, _⟩ => ⟨S512x256, .bf16⟩
  | .hbm, ⟨12, _⟩ => ⟨S256x512, .bf16⟩
  | .hbm, ⟨13, _⟩ => ⟨S512x256, .bf16⟩
  | .hbm, ⟨14, _⟩ => ⟨S32x256, .f32⟩
  | .local _ .vmem, ⟨0, _⟩ => ⟨S256x256, .bf16⟩
  | .local _ .vmem, ⟨1, _⟩ => ⟨S256x512, .bf16⟩
  | .local _ .vmem, ⟨2, _⟩ => ⟨S512x256, .bf16⟩
  | .local _ .vmem, ⟨3, _⟩ => ⟨S256x512, .bf16⟩
  | .local _ .vmem, ⟨4, _⟩ => ⟨S512x256, .bf16⟩
  | .local _ .vmem, ⟨5, _⟩ => ⟨S256x512, .bf16⟩
  | .local _ .vmem, ⟨6, _⟩ => ⟨S512x256, .bf16⟩
  | .local _ .vmem, ⟨7, _⟩ => ⟨S32x256, .f32⟩
  | .local _ .vmem, ⟨8, _⟩ => ⟨S256x256, .f32⟩
  | .local _ .vmem, ⟨9, _⟩ => ⟨S12x128x256, .bf16⟩
  | .local _ .vmem, ⟨10, _⟩ => ⟨S12x128x256, .bf16⟩
  | .local _ .vmem, ⟨11, _⟩ => ⟨S7x32x256, .bf16⟩
  | .local _ .vmem, ⟨12, _⟩ => ⟨S7x32x256, .bf16⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_24 : BitVec 32 := 1#32
  let v32 : BitVec 32 := Scalar.xori v2 c1_i32_24
  let c1_i32_29 : BitVec 32 := 1#32
  let v33 : BitVec 32 := Scalar.muli v32 c1_i32_29
  let v34 : BitVec 32 := Scalar.addi c0_i32_30 v33
  v34.toNat
def k0_dev5 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_49 : BitVec 32 := 3#32
  let v62 : BitVec 32 := Scalar.xori v2 c3_i32_49
  let c1_i32_54 : BitVec 32 := 1#32
  let v63 : BitVec 32 := Scalar.muli v62 c1_i32_54
  let v64 : BitVec 32 := Scalar.addi c0_i32_55 v63
  v64.toNat
def k0_dev6 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_90 : BitVec 32 := 3#32
  let v100 : BitVec 32 := Scalar.xori v2 c3_i32_90
  let c1_i32_94 : BitVec 32 := 1#32
  let v101 : BitVec 32 := Scalar.muli v100 c1_i32_94
  let v102 : BitVec 32 := Scalar.addi c0_i32_95 v101
  v102.toNat
def k0_dev7 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_130 : BitVec 32 := 4#32
  let v138 : BitVec 32 := Scalar.xori v2 c4_i32_130
  let c1_i32_135 : BitVec 32 := 1#32
  let v139 : BitVec 32 := Scalar.muli v138 c1_i32_135
  let v140 : BitVec 32 := Scalar.addi c0_i32_136 v139
  v140.toNat
def k0_dev8 (d0 : Dev nD) : Nat :=
  let c0_i32_177 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_171 : BitVec 32 := 4#32
  let v176 : BitVec 32 := Scalar.xori v2 c4_i32_171
  let c1_i32_176 : BitVec 32 := 1#32
  let v177 : BitVec 32 := Scalar.muli v176 c1_i32_176
  let v178 : BitVec 32 := Scalar.addi c0_i32_177 v177
  v178.toNat
def k0_dev9 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_212 : BitVec 32 := 1#32
  let v214 : BitVec 32 := Scalar.xori v2 c1_i32_212
  let c1_i32_216 : BitVec 32 := 1#32
  let v215 : BitVec 32 := Scalar.muli v214 c1_i32_216
  let v216 : BitVec 32 := Scalar.addi c0_i32_217 v215
  v216.toNat
def k0_dev10 (d0 : Dev nD) : Nat :=
  let c0_i32_268 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_263 : BitVec 32 := 1#32
  let v266 : BitVec 32 := Scalar.xori v2 c1_i32_263
  let c1_i32_267 : BitVec 32 := 1#32
  let v267 : BitVec 32 := Scalar.muli v266 c1_i32_267
  let v268 : BitVec 32 := Scalar.addi c0_i32_268 v267
  v268.toNat
def k0_dev11 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_314 : BitVec 32 := 3#32
  let v318 : BitVec 32 := Scalar.xori v2 c3_i32_314
  let c1_i32_318 : BitVec 32 := 1#32
  let v319 : BitVec 32 := Scalar.muli v318 c1_i32_318
  let v320 : BitVec 32 := Scalar.addi c0_i32_319 v319
  v320.toNat
def k0_dev12 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_354 : BitVec 32 := 3#32
  let v356 : BitVec 32 := Scalar.xori v2 c3_i32_354
  let c1_i32_359 : BitVec 32 := 1#32
  let v357 : BitVec 32 := Scalar.muli v356 c1_i32_359
  let v358 : BitVec 32 := Scalar.addi c0_i32_360 v357
  v358.toNat
def k0_dev13 (d0 : Dev nD) : Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_395 : BitVec 32 := 4#32
  let v394 : BitVec 32 := Scalar.xori v2 c4_i32_395
  let c1_i32_399 : BitVec 32 := 1#32
  let v395 : BitVec 32 := Scalar.muli v394 c1_i32_399
  let v396 : BitVec 32 := Scalar.addi c0_i32_400 v395
  v396.toNat
def k0_dev14 (d0 : Dev nD) : Nat :=
  let c0_i32_440 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_435 : BitVec 32 := 4#32
  let v432 : BitVec 32 := Scalar.xori v2 c4_i32_435
  let c1_i32_439 : BitVec 32 := 1#32
  let v433 : BitVec 32 := Scalar.muli v432 c1_i32_439
  let v434 : BitVec 32 := Scalar.addi c0_i32_440 v433
  v434.toNat
def k0_dev15 (d0 : Dev nD) : Nat :=
  let c0_i32_480 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_475 : BitVec 32 := 1#32
  let v470 : BitVec 32 := Scalar.xori v2 c1_i32_475
  let c1_i32_479 : BitVec 32 := 1#32
  let v471 : BitVec 32 := Scalar.muli v470 c1_i32_479
  let v472 : BitVec 32 := Scalar.addi c0_i32_480 v471
  v472.toNat
def k0_off1 (d0 : Dev nD) (c1_i32_559 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v553 : BitVec 32 := Scalar.xori v2 c1_i32_559
  let c32_i32 : BitVec 32 := 32#32
  let v554 : BitVec 32 := Scalar.muli v553 c32_i32
  let v555 : Index := Scalar.indexCast v554
  let c0_560 : Index := 0#32
  ![v555.toNat, 0]
def k0_dev16 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_559 : BitVec 32 := 1#32
  let v553 : BitVec 32 := Scalar.xori v2 c1_i32_559
  let c1_i32_568 : BitVec 32 := 1#32
  let v561 : BitVec 32 := Scalar.muli v553 c1_i32_568
  let v562 : BitVec 32 := Scalar.addi c0_i32_569 v561
  v562.toNat
def k0_dev17 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_574 : BitVec 32 := 2#32
  let v571 : BitVec 32 := Scalar.xori v2 c2_i32_574
  let c1_i32_584 : BitVec 32 := 1#32
  let v579 : BitVec 32 := Scalar.muli v571 c1_i32_584
  let v580 : BitVec 32 := Scalar.addi c0_i32_585 v579
  v580.toNat
def k0_dev18 (d0 : Dev nD) : Nat :=
  let c0_i32_601 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_590 : BitVec 32 := 3#32
  let v589 : BitVec 32 := Scalar.xori v2 c3_i32_590
  let c1_i32_600 : BitVec 32 := 1#32
  let v597 : BitVec 32 := Scalar.muli v589 c1_i32_600
  let v598 : BitVec 32 := Scalar.addi c0_i32_601 v597
  v598.toNat
def k0_dev19 (d0 : Dev nD) : Nat :=
  let c0_i32_617 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_606 : BitVec 32 := 4#32
  let v607 : BitVec 32 := Scalar.xori v2 c4_i32_606
  let c1_i32_616 : BitVec 32 := 1#32
  let v615 : BitVec 32 := Scalar.muli v607 c1_i32_616
  let v616 : BitVec 32 := Scalar.addi c0_i32_617 v615
  v616.toNat
def k0_dev20 (d0 : Dev nD) : Nat :=
  let c0_i32_633 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_622 : BitVec 32 := 5#32
  let v625 : BitVec 32 := Scalar.xori v2 c5_i32_622
  let c1_i32_632 : BitVec 32 := 1#32
  let v633 : BitVec 32 := Scalar.muli v625 c1_i32_632
  let v634 : BitVec 32 := Scalar.addi c0_i32_633 v633
  v634.toNat
def k0_dev21 (d0 : Dev nD) : Nat :=
  let c0_i32_649 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_638 : BitVec 32 := 6#32
  let v643 : BitVec 32 := Scalar.xori v2 c6_i32_638
  let c1_i32_648 : BitVec 32 := 1#32
  let v651 : BitVec 32 := Scalar.muli v643 c1_i32_648
  let v652 : BitVec 32 := Scalar.addi c0_i32_649 v651
  v652.toNat
def k0_dev22 (d0 : Dev nD) : Nat :=
  let c0_i32_665 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_654 : BitVec 32 := 7#32
  let v661 : BitVec 32 := Scalar.xori v2 c7_i32_654
  let c1_i32_664 : BitVec 32 := 1#32
  let v669 : BitVec 32 := Scalar.muli v661 c1_i32_664
  let v670 : BitVec 32 := Scalar.addi c0_i32_665 v669
  v670.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_803 : BitVec 32 := 32#32
  let v777 : BitVec 32 := Scalar.muli v2 c32_i32_803
  let v778 : Index := Scalar.indexCast v777
  let c0_804 : Index := 0#32
  ![v778.toNat, 0]
abbrev stage0_0 : Fin 1 → Memref sig .tc .vmem S256x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S256x256 : Shape := ⟨2, ![256, 256]⟩
abbrev S256x4096 : Shape := ⟨2, ![256, 4096]⟩
abbrev S4096x256 : Shape := ⟨2, ![4096, 256]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x4096, .f32⟩
  | .hbm, ⟨2, _⟩ => ⟨S256x4096, .f32⟩
  | .hbm, ⟨3, _⟩ => ⟨S256x4096, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S256x4096, .f32⟩
  | .hbm, ⟨8, _⟩ => ⟨S_, .f32⟩
  | .hbm, ⟨9, _⟩ => ⟨S256x4096, .f32⟩
  | .hbm, ⟨10, _⟩ => ⟨S256x4096, .f32⟩
  | .hbm, ⟨11, _⟩ => ⟨S256x256, .f32⟩
  | .hbm, ⟨12, _⟩ => ⟨S256x4096, .f32⟩
  | .hbm, ⟨13, _⟩ => ⟨S_, .f32⟩
  | .hbm, ⟨14, _⟩ => ⟨S256x4096, .f32⟩
  | .hbm, ⟨15, _⟩ => ⟨S256x4096, .f32⟩
  | .hbm, ⟨16, _⟩ => ⟨S256x256, .f32⟩
  | .hbm, ⟨17, _⟩ => ⟨S256x4096, .f32⟩
  | .hbm, ⟨18, _⟩ => ⟨S_, .f32⟩
  | .hbm, ⟨19, _⟩ => ⟨S256x4096, .f32⟩
  | .hbm, ⟨20, _⟩ => ⟨S256x4096, .f32⟩
  | .hbm, ⟨21, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Steps.lean ====
/-
# The kernel's body in steps

The body of the launch is a straight line of memory operations and transfers. It repeats a few steps, each at a
different slot: a block of the product is computed into one half of the accumulator; a half is rounded into a slot
of the send buffer and sent to a partner; a transfer is awaited; what landed is added to the half; a slab of the
accumulator is sent to the device it belongs to. Each step is a definition here, over its slot, and `body_eq` says
the body is their sequence.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.KernelIdeal.Steps

open Cert.KernelIdeal Cert.KernelIdeal.Gen
open Idealize.ShloMosaic
open Idealize.ShloMosaic.TcCoe
open Idealize.SL Idealize.SL.Sem

variable {F : FTy → Type} [FloatOps F]

/-! ## The buffers -/

abbrev xM : Memref sig .tc .vmem S256x256 .bf16 := Memref.whole cc0_stg0_0
abbrev outM : Memref sig .tc .vmem S32x256 .f32 := Memref.whole cc0_stg7_0
abbrev accM : Memref sig .tc .vmem S256x256 .f32 := Memref.whole cc0_scratch0
abbrev sendM : Memref sig .tc .vmem S12x128x256 .bf16 := Memref.whole cc0_scratch1
abbrev commM : Memref sig .tc .vmem S12x128x256 .bf16 := Memref.whole cc0_scratch2
abbrev stageM : Memref sig .tc .vmem S7x32x256 .bf16 := Memref.whole cc0_scratch3
abbrev a2aM : Memref sig .tc .vmem S7x32x256 .bf16 := Memref.whole cc0_scratch4

/-! ## Rectangles: a half of the accumulator, a slot, a slab -/

theorem half_inb : ∀ h : Fin 2, ∀ a, (![128 * h.val, 0] : Fin 2 → Nat) a + S128x256.size a ≤ S256x256.size a := by decide
theorem slot_inb : ∀ k : Fin 12, ∀ a, (![k.val, 0, 0] : Fin 3 → Nat) a + S1x128x256.size a ≤ S12x128x256.size a := by decide
theorem slab_inb : ∀ o : Fin 7, ∀ a, (![o.val, 0, 0] : Fin 3 → Nat) a + S1x32x256.size a ≤ S7x32x256.size a := by decide
theorem sem12_inb : ∀ k : Fin 12, ∀ a, (![k.val] : Fin 1 → Nat) a + S1.size a ≤ S12.size a := by decide
theorem sem7_inb : ∀ o : Fin 7, ∀ a, (![o.val] : Fin 1 → Nat) a + S1.size a ≤ S7.size a := by decide

/-- Rows `[128 h, 128 h + 128)`. -/
abbrev halfR (h : Fin 2) : Rect S256x256 := Rect.unit (s := S256x256) ![128 * h.val, 0] S128x256.size (half_inb h)
/-- Slot `k` of the buffers the partners exchange through. -/
abbrev slotR (k : Fin 12) : Rect S12x128x256 := Rect.unit (s := S12x128x256) ![k.val, 0, 0] S1x128x256.size (slot_inb k)
/-- Slab `o` of the buffers of the last exchange. -/
abbrev slabR (o : Fin 7) : Rect S7x32x256 := Rect.unit (s := S7x32x256) ![o.val, 0, 0] S1x32x256.size (slab_inb o)
/-- The rows of the accumulator slab `o` takes. -/
abbrev peerRows (d0 : Dev nD) (o : Fin 7) : Rect S256x256 :=
  Rect.unit (s := S256x256) (k0_off1 d0 (BitVec.ofNat 32 (1 + o.val))) S32x256.size (k0_off1_inb d0 o)
/-- The rows of the accumulator that are the device's own. -/
abbrev ownRows (d0 : Dev nD) : Rect S256x256 := Rect.unit (s := S256x256) (k0_off2 d0) S32x256.size (k0_off2_inb d0)
abbrev winR : Rect S256x512 := Rect.unit (s := S256x512) ![0, 0] S256x512.size inb_S256x512_S256x512_0_0
abbrev woutR : Rect S512x256 := Rect.unit (s := S512x256) ![0, 0] S512x256.size inb_S512x256_S512x256_0_0
abbrev outR : Rect S32x256 := Rect.unit (s := S32x256) ![0, 0] S32x256.size inb_S32x256_S32x256_0_0

theorem slot_packed : ∀ k : Fin 12, (slotR k).PackedRows (EltTy.packing .bf16) := by decide
theorem slot_words : ∀ k : Fin 12, (slotR k).WholeWords (EltTy.packing .bf16) := by decide
theorem slab_packed : ∀ o : Fin 7, (slabR o).PackedRows (EltTy.packing .bf16) := by decide
theorem slab_words : ∀ o : Fin 7, (slabR o).WholeWords (EltTy.packing .bf16) := by decide

/-! ## Slots as transfers name them, and their semaphores -/

abbrev sendAt (k : Fin 12) : Memref sig .tc .vmem S128x256 .bf16 :=
  (sendM.slice (slotR k) (fun _ => rfl)).squeeze S128x256 squeezes_S1x128x256_S128x256
abbrev commAt (k : Fin 12) : Memref sig .tc .vmem S128x256 .bf16 :=
  (commM.slice (slotR k) (fun _ => rfl)).squeeze S128x256 squeezes_S1x128x256_S128x256
abbrev stageAt (o : Fin 7) : Memref sig .tc .vmem S32x256 .bf16 :=
  (stageM.slice (slabR o) (fun _ => rfl)).squeeze S32x256 squeezes_S1x32x256_S32x256
abbrev a2aAt (o : Fin 7) : Memref sig .tc .vmem S32x256 .bf16 :=
  (a2aM.slice (slabR o) (fun _ => rfl)).squeeze S32x256 squeezes_S1x32x256_S32x256

abbrev sendSem (k : Fin 12) : DmaSem sig :=
  ((cc0_scratch5.slice (Rect.unit (s := S12) ![k.val] S1.size (sem12_inb k))).squeeze S_ squeezes_S1_S_).sem
abbrev recvSem (k : Fin 12) : DmaSem sig :=
  ((cc0_scratch6.slice (Rect.unit (s := S12) ![k.val] S1.size (sem12_inb k))).squeeze S_ squeezes_S1_S_).sem
abbrev stageSem (o : Fin 7) : DmaSem sig :=
  ((cc0_scratch7.slice (Rect.unit (s := S7) ![o.val] S1.size (sem7_inb o))).squeeze S_ squeezes_S1_S_).sem
abbrev a2aSem (o : Fin 7) : DmaSem sig :=
  ((cc0_scratch8.slice (Rect.unit (s := S7) ![o.val] S1.size (sem7_inb o))).squeeze S_ squeezes_S1_S_).sem
abbrev readySem : Sem sig := (SemArray.scalar (sig.barrier 0 rfl) : Sems sig S_).sem

abbrev P (α : Type) : Type 1 := Prog (TpuEff nD τ sig (Elt F) Λ₀ .tc) α

/-! ## The steps -/

/-- A half of the accumulator, read. -/
def loadHalf (h : Fin 2) : P (F := F) (Vec F S128x256 .f32) :=
  Prog.lift (.load accM (halfR h).toLoadRect (View.loadsAt_vmem h_S128x256))
/-- A half of the accumulator, written. -/
def storeHalf (h : Fin 2) (v : Vec F S128x256 .f32) : P (F := F) PUnit :=
  Prog.lift (.store accM (halfR h) v Finset.univ (View.stores_vmem_bits_univ h_S128x256 rfl) (.inl rfl))
def loadWin (w : Memref sig .tc .vmem S256x512 .bf16) : P (F := F) (Vec F S256x512 .bf16) :=
  Prog.lift (.load w winR.toLoadRect (View.loadsAt_vmem h_S256x512))
def loadWout (w : Memref sig .tc .vmem S512x256 .bf16) : P (F := F) (Vec F S512x256 .bf16) :=
  Prog.lift (.load w woutR.toLoadRect (View.loadsAt_vmem h_S512x256))

/-- The first layer's product of half `h`, from the input. -/
def first (h : Fin 2) : P (F := F) PUnit := do
  let x : Vec F S128x256 .bf16 ← Prog.lift (.load xM (halfR h).toLoadRect (View.loadsAt_vmem h_S128x256))
  let win ← loadWin (F := F) (Memref.whole cc0_stg1_0)
  let wout ← loadWout (F := F) (Memref.whole cc0_stg2_0)
  let _ ← loadHalf (F := F) h
  storeHalf h (k0_pay2 x win wout)

/-- A later layer's product of half `h`, from the accumulator. -/
def next (win : Memref sig .tc .vmem S256x512 .bf16) (wout : Memref sig .tc .vmem S512x256 .bf16) (h : Fin 2) : P (F := F) PUnit := do
  let x ← loadHalf (F := F) h
  let win ← loadWin (F := F) win
  let wout ← loadWout (F := F) wout
  let _ ← loadHalf (F := F) h
  storeHalf h (k0_pay16 x win wout)

/-- The half of the accumulator slot `k` carries. -/
def hf (k : Fin 12) : Fin 2 := ⟨k.val % 2, Nat.mod_lt _ (by decide)⟩

/-- Half `hf k`, rounded into slot `k`, is sent to `dst`. -/
def start (k : Fin 12) (dst : Dev nD) : P (F := F) PUnit := do
  let v ← loadHalf (F := F) (hf k)
  let _ : Vec F S1x128x256 .bf16 ← Prog.lift (.load sendM (slotR k).toLoadRect (View.loadsAt_vmem h_S1x128x256))
  Prog.lift (.store sendM (slotR k) (k0_pay3 v) Finset.univ
    (View.stores_vmem h_S1x128x256 ((Memref.isWhole_whole cc0_scratch1).storeExact_slice rfl _ (slot_packed k)) (fun _ => rfl)) (.inl rfl))
  Prog.lift (.enqueueDma (sendAt k) (.remote (Dev.tc dst) (commAt k) (.dma (sendSem k))) (.dma (recvSem k))
    (((Memref.isWhole_whole cc0_scratch1).wordExact_slice rfl _ (slot_words k)).reshape _ _)
    (((Memref.isWhole_whole cc0_scratch2).wordExact_slice rfl _ (slot_words k)).reshape _ _) ⟨⟨rfl, Or.inl rfl⟩, trivial⟩)

/-- Slot `k`'s transfers, out and in, are awaited. -/
def await (k : Fin 12) : P (F := F) PUnit := do
  Prog.lift (.waitDma2 (sendSem k) (commAt k) (sendAt k)
    (((Memref.isWhole_whole cc0_scratch2).wordExact_slice rfl _ (slot_words k)).reshape _ _)
    (((Memref.isWhole_whole cc0_scratch1).wordExact_slice rfl _ (slot_words k)).reshape _ _))
  Prog.lift (.waitDma2 (recvSem k) (sendAt k) (commAt k)
    (((Memref.isWhole_whole cc0_scratch1).wordExact_slice rfl _ (slot_words k)).reshape _ _)
    (((Memref.isWhole_whole cc0_scratch2).wordExact_slice rfl _ (slot_words k)).reshape _ _))

/-- What landed in slot `k` is added to the half. -/
def add (k : Fin 12) : P (F := F) PUnit := do
  let v ← loadHalf (F := F) (hf k)
  let y : Vec F S1x128x256 .bf16 ← Prog.lift (.load commM (slotR k).toLoadRect (View.loadsAt_vmem h_S1x128x256))
  let _ ← loadHalf (F := F) (hf k)
  storeHalf (hf k) (k0_pay6 v y)

/-- The slab of the accumulator that belongs to `dst` is rounded into slab `o` and sent there. -/
def scatter (d0 : Dev nD) (o : Fin 7) (dst : Dev nD) : P (F := F) PUnit := do
  let v : Vec F S32x256 .f32 ← Prog.lift (.load accM (peerRows d0 o).toLoadRect (View.loadsAt_vmem h_S32x256))
  let _ : Vec F S1x32x256 .bf16 ← Prog.lift (.load stageM (slabR o).toLoadRect (View.loadsAt_vmem h_S1x32x256))
  Prog.lift (.store stageM (slabR o) (k0_pay36 v) Finset.univ
    (View.stores_vmem h_S1x32x256 ((Memref.isWhole_whole cc0_scratch3).storeExact_slice rfl _ (slab_packed o)) (fun _ => rfl)) (.inl rfl))
  Prog.lift (.enqueueDma (stageAt o) (.remote (Dev.tc dst) (a2aAt o) (.dma (stageSem o))) (.dma (a2aSem o))
    (((Memref.isWhole_whole cc0_scratch3).wordExact_slice rfl _ (slab_words o)).reshape _ _)
    (((Memref.isWhole_whole cc0_scratch4).wordExact_slice rfl _ (slab_words o)).reshape _ _) ⟨⟨rfl, Or.inl rfl⟩, trivial⟩)

/-- Slab `o`'s transfers, out and in, are awaited. -/
def gather (o : Fin 7) : P (F := F) PUnit := do
  Prog.lift (.waitDma2 (stageSem o) (a2aAt o) (stageAt o)
    (((Memref.isWhole_whole cc0_scratch4).wordExact_slice rfl _ (slab_words o)).reshape _ _)
    (((Memref.isWhole_whole cc0_scratch3).wordExact_slice rfl _ (slab_words o)).reshape _ _))
  Prog.lift (.waitDma2 (a2aSem o) (stageAt o) (a2aAt o)
    (((Memref.isWhole_whole cc0_scratch3).wordExact_slice rfl _ (slab_words o)).reshape _ _)
    (((Memref.isWhole_whole cc0_scratch4).wordExact_slice rfl _ (slab_words o)).reshape _ _))

/-- A landed slab, read. -/
def loadSlab (o : Fin 7) : P (F := F) (Vec F S1x32x256 .bf16) :=
  Prog.lift (.load a2aM (slabR o).toLoadRect (View.loadsAt_vmem h_S1x32x256))

/-- The device's own slab and the seven landed ones, added in order. -/
def total (d0 : Dev nD) : P (F := F) PUnit := do
  let v : Vec F S32x256 .f32 ← Prog.lift (.load accM (ownRows d0).toLoadRect (View.loadsAt_vmem h_S32x256))
  let y0 ← loadSlab (F := F) 0
  let y1 ← loadSlab (F := F) 1
  let y2 ← loadSlab (F := F) 2
  let y3 ← loadSlab (F := F) 3
  let y4 ← loadSlab (F := F) 4
  let y5 ← loadSlab (F := F) 5
  let y6 ← loadSlab (F := F) 6
  let _ : Vec F S32x256 .f32 ← Prog.lift (.load outM outR.toLoadRect (View.loadsAt_vmem h_S32x256))
  Prog.lift (.store outM outR (k0_pay1 (k0_pay43 v y0 y1 y2 y3) y4 y5 y6) Finset.univ (View.stores_vmem_bits_univ h_S32x256 rfl) (.inl rfl))

/-- The three partners are told this device has entered, and the device waits for the three. -/
def enter (d0 : Dev nD) : P (F := F) PUnit := do
  semSignalWord (⟨k0_dev1 d0, k0_dev1_lt d0⟩ : Dev nD) readySem 1#32
  semSignalWord (⟨k0_dev2 d0, k0_dev2_lt d0⟩ : Dev nD) readySem 1#32
  semSignalWord (⟨k0_dev3 d0, k0_dev3_lt d0⟩ : Dev nD) readySem 1#32
  semWaitWord readySem 3#32

/-- The whole body. -/
def body : P (F := F) PUnit := do
  let d0 : Dev nD ← Prog.lift .deviceId
  enter d0
  first 0
  start 0 ⟨k0_dev4 d0, k0_dev4_lt d0⟩
  first 1
  start 1 ⟨k0_dev5 d0, k0_dev5_lt d0⟩
  await 0
  add 0
  start 2 ⟨k0_dev6 d0, k0_dev6_lt d0⟩
  await 1
  add 1
  start 3 ⟨k0_dev7 d0, k0_dev7_lt d0⟩
  await 2
  add 2
  start 4 ⟨k0_dev8 d0, k0_dev8_lt d0⟩
  await 3
  add 3
  start 5 ⟨k0_dev9 d0, k0_dev9_lt d0⟩
  await 4
  add 4
  next (Memref.whole cc0_stg3_0) (Memref.whole cc0_stg4_0) 0
  start 6 ⟨k0_dev10 d0, k0_dev10_lt d0⟩
  await 5
  add 5
  next (Memref.whole cc0_stg3_0) (Memref.whole cc0_stg4_0) 1
  start 7 ⟨k0_dev11 d0, k0_dev11_lt d0⟩
  await 6
  add 6
  start 8 ⟨k0_dev12 d0, k0_dev12_lt d0⟩
  await 7
  add 7
  start 9 ⟨k0_dev13 d0, k0_dev13_lt d0⟩
  await 8
  add 8
  start 10 ⟨k0_dev14 d0, k0_dev14_lt d0⟩
  await 9
  add 9
  start 11 ⟨k0_dev15 d0, k0_dev15_lt d0⟩
  await 10
  add 10
  next (Memref.whole cc0_stg5_0) (Memref.whole cc0_stg6_0) 0
  await 11
  add 11
  next (Memref.whole cc0_stg5_0) (Memref.whole cc0_stg6_0) 1
  scatter d0 0 ⟨k0_dev16 d0, k0_dev16_lt d0⟩
  scatter d0 1 ⟨k0_dev17 d0, k0_dev17_lt d0⟩
  scatter d0 2 ⟨k0_dev18 d0, k0_dev18_lt d0⟩
  scatter d0 3 ⟨k0_dev19 d0, k0_dev19_lt d0⟩
  scatter d0 4 ⟨k0_dev20 d0, k0_dev20_lt d0⟩
  scatter d0 5 ⟨k0_dev21 d0, k0_dev21_lt d0⟩
  scatter d0 6 ⟨k0_dev22 d0, k0_dev22_lt d0⟩
  gather 0
  gather 1
  gather 2
  gather 3
  gather 4
  gather 5
  gather 6
  total d0

set_option maxRecDepth 65536 in
/-- The launch's body is that sequence. -/
theorem body_eq :
    cc0_body (F := F) xM (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_stg5_0) (Memref.isWhole_whole _)
      (Memref.whole cc0_stg6_0) (Memref.isWhole_whole _) outM (Memref.isWhole_whole _) accM (Memref.isWhole_whole _)
      sendM (Memref.isWhole_whole _) commM (Memref.isWhole_whole _) stageM (Memref.isWhole_whole _) a2aM (Memref.isWhole_whole _)
      cc0_scratch5 cc0_scratch6 cc0_scratch7 cc0_scratch8 = body (F := F) := rfl

end Cert.KernelIdeal.Steps
-- ==== Proof.KernelIdeal.Contents.lean ====
/-
# Who talks to whom, and what the buffers hold

A device's partners are the devices whose number differs from its own by a mask. Slot `k` is the exchange of the half
`hf k` of a layer at one of three steps; the masks `1`, `3`, `4` are used in an order that depends on the half. What
each exchange carries follows from the inputs of all eight devices: `part` is a device's product of a layer, `bfly` the
half after some of the exchanges, `atSlot k` the half that slot `k` carries.
-/
module

public import proofs.«01_k».proof.Proof.KernelIdeal.Steps
public import Idealize.ShloMosaic.Lib.ValueIdxCore

@[expose] public section

noncomputable section

namespace Cert.KernelIdeal.Steps

open Cert.KernelIdeal Cert.KernelIdeal.Gen
open Idealize.ShloMosaic
open Idealize.ShloMosaic.TcCoe
open Idealize.ShloMosaic.ValueIdx

variable {F : FTy → Type} [FloatOps F]

/-! ## Partners -/

theorem xor_lt : ∀ (m : Fin 8) (c : Dev nD), c.val ^^^ m.val < nD := by decide

/-- The device whose number differs from `c`'s by the mask `m`. -/
def px (m : Fin 8) (c : Dev nD) : Dev nD := ⟨c.val ^^^ m.val, xor_lt m c⟩

theorem px_px : ∀ (m : Fin 8) (c : Dev nD), px m (px m c) = c := by decide

/-- Taking partners under a mask permutes the devices. -/
def pxPerm (m : Fin 8) : Dev nD ≃ Dev nD := ⟨px m, px m, px_px m, px_px m⟩

/-- The three masks. -/
def mm : Fin 3 → Fin 8 := ![1, 3, 4]

/-- The mask half `h` uses at step `s` of a layer. -/
def mi (h : Fin 2) (s : ℕ) : Fin 3 := ⟨(s + h.val) % 3, Nat.mod_lt _ (by decide)⟩

/-- The step of the layer slot `k` is. -/
def st (k : Fin 12) : ℕ := k.val / 2 % 3
/-- The mask of slot `k`. -/
def mk (k : Fin 12) : Fin 3 := mi (hf k) (st k)
/-- Slot `k`'s partner. -/
def pk (k : Fin 12) (c : Dev nD) : Dev nD := px (mm (mk k)) c
/-- The mask slab `o` goes by. -/
def om (o : Fin 7) : Fin 8 := ⟨o.val + 1, by omega⟩
/-- Slab `o`'s partner. -/
def po (o : Fin 7) (c : Dev nD) : Dev nD := px (om o) c

theorem pk_pk (k : Fin 12) (c : Dev nD) : pk k (pk k c) = c := px_px _ c
theorem po_po (o : Fin 7) (c : Dev nD) : po o (po o c) = c := px_px _ c

theorem dev1_eq : ∀ c : Dev nD, (⟨k0_dev1 c, k0_dev1_lt c⟩ : Dev nD) = px (mm 0) c := by decide +kernel
theorem dev2_eq : ∀ c : Dev nD, (⟨k0_dev2 c, k0_dev2_lt c⟩ : Dev nD) = px (mm 1) c := by decide +kernel
theorem dev3_eq : ∀ c : Dev nD, (⟨k0_dev3 c, k0_dev3_lt c⟩ : Dev nD) = px (mm 2) c := by decide +kernel
theorem dev4_eq : ∀ c : Dev nD, (⟨k0_dev4 c, k0_dev4_lt c⟩ : Dev nD) = pk 0 c := by decide +kernel
theorem dev5_eq : ∀ c : Dev nD, (⟨k0_dev5 c, k0_dev5_lt c⟩ : Dev nD) = pk 1 c := by decide +kernel
theorem dev6_eq : ∀ c : Dev nD, (⟨k0_dev6 c, k0_dev6_lt c⟩ : Dev nD) = pk 2 c := by decide +kernel
theorem dev7_eq : ∀ c : Dev nD, (⟨k0_dev7 c, k0_dev7_lt c⟩ : Dev nD) = pk 3 c := by decide +kernel
theorem dev8_eq : ∀ c : Dev nD, (⟨k0_dev8 c, k0_dev8_lt c⟩ : Dev nD) = pk 4 c := by decide +kernel
theorem dev9_eq : ∀ c : Dev nD, (⟨k0_dev9 c, k0_dev9_lt c⟩ : Dev nD) = pk 5 c := by decide +kernel
theorem dev10_eq : ∀ c : Dev nD, (⟨k0_dev10 c, k0_dev10_lt c⟩ : Dev nD) = pk 6 c := by decide +kernel
theorem dev11_eq : ∀ c : Dev nD, (⟨k0_dev11 c, k0_dev11_lt c⟩ : Dev nD) = pk 7 c := by decide +kernel
theorem dev12_eq : ∀ c : Dev nD, (⟨k0_dev12 c, k0_dev12_lt c⟩ : Dev nD) = pk 8 c := by decide +kernel
theorem dev13_eq : ∀ c : Dev nD, (⟨k0_dev13 c, k0_dev13_lt c⟩ : Dev nD) = pk 9 c := by decide +kernel
theorem dev14_eq : ∀ c : Dev nD, (⟨k0_dev14 c, k0_dev14_lt c⟩ : Dev nD) = pk 10 c := by decide +kernel
theorem dev15_eq : ∀ c : Dev nD, (⟨k0_dev15 c, k0_dev15_lt c⟩ : Dev nD) = pk 11 c := by decide +kernel
theorem dev16_eq : ∀ c : Dev nD, (⟨k0_dev16 c, k0_dev16_lt c⟩ : Dev nD) = po 0 c := by decide +kernel
theorem dev17_eq : ∀ c : Dev nD, (⟨k0_dev17 c, k0_dev17_lt c⟩ : Dev nD) = po 1 c := by decide +kernel
theorem dev18_eq : ∀ c : Dev nD, (⟨k0_dev18 c, k0_dev18_lt c⟩ : Dev nD) = po 2 c := by decide +kernel
theorem dev19_eq : ∀ c : Dev nD, (⟨k0_dev19 c, k0_dev19_lt c⟩ : Dev nD) = po 3 c := by decide +kernel
theorem dev20_eq : ∀ c : Dev nD, (⟨k0_dev20 c, k0_dev20_lt c⟩ : Dev nD) = po 4 c := by decide +kernel
theorem dev21_eq : ∀ c : Dev nD, (⟨k0_dev21 c, k0_dev21_lt c⟩ : Dev nD) = po 5 c := by decide +kernel
theorem dev22_eq : ∀ c : Dev nD, (⟨k0_dev22 c, k0_dev22_lt c⟩ : Dev nD) = po 6 c := by decide +kernel

/-- Slab `o` of device `c` is the rows that belong to its partner. -/
theorem off1_eq : ∀ (c : Dev nD) (o : Fin 7), k0_off1 c (BitVec.ofNat 32 (1 + o.val)) = ![32 * (po o c).val, 0] := by decide +kernel

/-! ## The accumulator, by halves -/

/-- A half of the accumulator's rows. -/
abbrev Half (F : FTy → Type) : Type := Vec F S128x256 .f32

/-- The accumulator whose two halves are `A 0` and `A 1`. -/
def accOf (A : Fin 2 → Half F) : Vec F S256x256 .f32 := fun i =>
  A ⟨(i 0).val / 128, by have := (i 0).isLt; change _ < 256 at this; omega⟩
    (ix2 ⟨(i 0).val % 128, Nat.mod_lt _ (by decide)⟩ ⟨(i 1).val, (i 1).isLt⟩)

omit [FloatOps F] in
theorem accOf_half (A : Fin 2 → Half F) (h : Fin 2) : accM.view.readAt (Elt F) (halfR h).toLoadRect (accOf A) = A h := by
  funext x
  have hx := (x 0).isLt
  change _ < 128 at hx
  show accOf A ((halfR h).toLoadRect.idx x) = A h x
  unfold accOf
  have e0 : (((halfR h).toLoadRect.idx x) 0).val = 128 * h.val + (x 0).val := by
    show 128 * h.val + 1 * (x 0).val = _
    omega
  have e1 : (((halfR h).toLoadRect.idx x) 1).val = (x 1).val := by
    show 0 + 1 * (x 1).val = _
    omega
  have hh : (⟨(((halfR h).toLoadRect.idx x) 0).val / 128, by rw [e0]; have := h.isLt; omega⟩ : Fin 2) = h := Fin.ext (by show _ / 128 = _; rw [e0]; omega)
  rw [hh]
  congr 1
  funext a
  fin_cases a
  · exact Fin.ext (by show (((halfR h).toLoadRect.idx x) 0).val % 128 = (x 0).val; rw [e0]; omega)
  · exact Fin.ext e1

omit [FloatOps F] in
/-- The halves determine the accumulator. -/
theorem acc_ext (f g : Vec F S256x256 .f32)
    (h : ∀ h, accM.view.readAt (Elt F) (halfR h).toLoadRect f = accM.view.readAt (Elt F) (halfR h).toLoadRect g) : f = g := by
  funext i
  have hi := (i 0).isLt
  change _ < 256 at hi
  have e := congrFun (h ⟨(i 0).val / 128, by omega⟩) (ix2 ⟨(i 0).val % 128, Nat.mod_lt _ (by decide)⟩ ⟨(i 1).val, (i 1).isLt⟩)
  have hidx : (halfR ⟨(i 0).val / 128, by omega⟩).toLoadRect.idx (ix2 ⟨(i 0).val % 128, Nat.mod_lt _ (by decide)⟩ ⟨(i 1).val, (i 1).isLt⟩) = i := by
    funext a
    fin_cases a
    · exact Fin.ext (by show 128 * ((i 0).val / 128) + 1 * ((i 0).val % 128) = (i 0).val; omega)
    · exact Fin.ext (by show 0 + 1 * (i 1).val = (i 1).val; omega)
  change f _ = g _ at e
  rwa [hidx] at e

omit [FloatOps F] in
theorem acc_surj (f : Vec F S256x256 .f32) : ∃ A, f = accOf A :=
  ⟨fun h => accM.view.readAt (Elt F) (halfR h).toLoadRect f, acc_ext _ _ fun h => (accOf_half (fun h => accM.view.readAt (Elt F) (halfR h).toLoadRect f) h).symm⟩

theorem halves_disjoint {h h' : Fin 2} (hne : h ≠ h') : Disjoint (accM.access (halfR h)).set (accM.access (halfR h')).set :=
  View.disjoint_slice_of_sep _ _ _ (0 : Fin 2) rfl rfl (by
    show 128 * h.val + 128 ≤ 128 * h'.val ∨ 128 * h'.val + 128 ≤ 128 * h.val
    have := fun e => hne (Fin.ext e); have := h.isLt; have := h'.isLt; omega)

omit [FloatOps F] in
/-- Writing half `h` replaces it. -/
theorem accOf_write (A : Fin 2 → Half F) (h : Fin 2) (v : Half F) :
    (accM.access (halfR h)).write (Elt F) (accOf A) v Finset.univ = accOf (Function.update A h v) := by
  refine acc_ext _ _ fun h' => ?_
  rw [accOf_half]
  by_cases e : h' = h
  · subst e
    rw [Function.update_self]
    exact View.read_write_univ (v := accM.access (halfR h')) _ _
  · rw [Function.update_of_ne e]
    exact (View.read_slice_write_slice_of_disjoint (v := accM.view) (halfR h') (halfR h) _ v Finset.univ (halves_disjoint e)).trans (accOf_half A h')

/-! ## What every exchange carries -/

/-- The blocks the devices hold: the input, and each layer's two weights. -/
structure Ins (F : FTy → Type) where
  x : Dev nD → Vec F S256x256 .bf16
  win : ℕ → Dev nD → Vec F S256x512 .bf16
  wout : ℕ → Dev nD → Vec F S512x256 .bf16

/-- A half after `s` exchanges, from what each device starts with: a partner's half is rounded, sent, and added. -/
def bfly (f : Dev nD → Half F) (h : Fin 2) : ℕ → Dev nD → Half F
  | 0 => f
  | s + 1 => fun c => k0_pay6 (bfly f h s c) (k0_pay3 (bfly f h s (px (mm (mi h s)) c)))

variable (I : Ins F)

/-- A device's product of a layer: the first from the input, a later one from the half the exchanges of the previous
    layer leave. -/
def part (h : Fin 2) : ℕ → Dev nD → Half F
  | 0 => fun c => k0_pay2 (xM.view.readAt (Elt F) (halfR h).toLoadRect (I.x c)) (I.win 0 c) (I.wout 0 c)
  | l + 1 => fun c => k0_pay16 (bfly (part h l) h 3 c) (I.win (l + 1) c) (I.wout (l + 1) c)

/-- The half slot `k` carries. -/
def atSlot (k : Fin 12) (c : Dev nD) : Half F := bfly (part I (hf k) (k.val / 6)) (hf k) (st k) c
/-- Slot `k`'s message from `c`. -/
def msg (k : Fin 12) (c : Dev nD) : Vec F S1x128x256 .bf16 := k0_pay3 (atSlot I k c)
/-- The half after slot `k`'s message from the partner is added. -/
def added (k : Fin 12) (c : Dev nD) : Half F := k0_pay6 (atSlot I k c) (msg I k (pk k c))

theorem added_eq (k : Fin 12) (c : Dev nD) : added I k c = bfly (part I (hf k) (k.val / 6)) (hf k) (st k + 1) c := rfl

/-- The accumulator after the last layer. -/
def accFin (c : Dev nD) : Vec F S256x256 .f32 := accOf fun h => part I h 2 c
/-- Slab `o`'s message from `c`: the rows of its accumulator that belong to the partner, rounded. -/
def slab (o : Fin 7) (c : Dev nD) : Vec F S1x32x256 .bf16 := k0_pay36 (accM.view.readAt (Elt F) (peerRows c o).toLoadRect (accFin I c))
/-- The result: the device's own rows and the seven slabs that belong to it. -/
def out (c : Dev nD) : Vec F S32x256 .f32 :=
  k0_pay1 (k0_pay43 (accM.view.readAt (Elt F) (ownRows c).toLoadRect (accFin I c)) (slab I 0 (po 0 c)) (slab I 1 (po 1 c)) (slab I 2 (po 2 c)) (slab I 3 (po 3 c)))
    (slab I 4 (po 4 c)) (slab I 5 (po 5 c)) (slab I 6 (po 6 c))

/-! ## A slot as a transfer names it, and as a load does -/

section
omit [FloatOps F]

theorem read_commAt (k : Fin 12) (f : cc0_scratch2.ty.Contents (Elt F)) :
    (commAt k).view.read (Elt F) f = shapeCast S128x256 ((commM.access (slotR k)).read (Elt F) f) shapeCasts_S1x128x256_S128x256 := rfl
theorem read_sendAt (k : Fin 12) (f : cc0_scratch1.ty.Contents (Elt F)) :
    (sendAt k).view.read (Elt F) f = shapeCast S128x256 ((sendM.access (slotR k)).read (Elt F) f) shapeCasts_S1x128x256_S128x256 := rfl
theorem read_a2aAt (o : Fin 7) (f : cc0_scratch4.ty.Contents (Elt F)) :
    (a2aAt o).view.read (Elt F) f = shapeCast S32x256 ((a2aM.access (slabR o)).read (Elt F) f) shapeCasts_S1x32x256_S32x256 := rfl
theorem read_stageAt (o : Fin 7) (f : cc0_scratch3.ty.Contents (Elt F)) :
    (stageAt o).view.read (Elt F) f = shapeCast S32x256 ((stageM.access (slabR o)).read (Elt F) f) shapeCasts_S1x32x256_S32x256 := rfl

theorem set_commAt (k : Fin 12) : (commAt k).view.set = (commM.access (slotR k)).set := View.set_reshape _ _
theorem set_sendAt (k : Fin 12) : (sendAt k).view.set = (sendM.access (slotR k)).set := View.set_reshape _ _
theorem set_a2aAt (o : Fin 7) : (a2aAt o).view.set = (a2aM.access (slabR o)).set := View.set_reshape _ _
theorem set_stageAt (o : Fin 7) : (stageAt o).view.set = (stageM.access (slabR o)).set := View.set_reshape _ _

theorem cast_slot_inj {v w : Vec F S1x128x256 .bf16}
    (h : shapeCast S128x256 v shapeCasts_S1x128x256_S128x256 = shapeCast S128x256 w shapeCasts_S1x128x256_S128x256) : v = w :=
  (Shape.reshapeEquiv (s := S1x128x256) (s' := S128x256) rfl).surjective.injective_comp_right h

theorem cast_slab_inj {v w : Vec F S1x32x256 .bf16}
    (h : shapeCast S32x256 v shapeCasts_S1x32x256_S32x256 = shapeCast S32x256 w shapeCasts_S1x32x256_S32x256) : v = w :=
  (Shape.reshapeEquiv (s := S1x32x256) (s' := S32x256) rfl).surjective.injective_comp_right h

/-- What lands in slot `k` is what the sender's slot `k` held. -/
theorem landed_slot (k : Fin 12) (fd : cc0_scratch2.ty.Contents (Elt F)) (fs : cc0_scratch1.ty.Contents (Elt F)) :
    (commM.access (slotR k)).read (Elt F) ((commAt k).view.write (Elt F) fd ((sendAt k).view.read (Elt F) fs) Finset.univ)
      = (sendM.access (slotR k)).read (Elt F) fs :=
  cast_slot_inj (by rw [← read_commAt, View.read_write_univ, read_sendAt])

theorem landed_slab (o : Fin 7) (fd : cc0_scratch4.ty.Contents (Elt F)) (fs : cc0_scratch3.ty.Contents (Elt F)) :
    (a2aM.access (slabR o)).read (Elt F) ((a2aAt o).view.write (Elt F) fd ((stageAt o).view.read (Elt F) fs) Finset.univ)
      = (stageM.access (slabR o)).read (Elt F) fs :=
  cast_slab_inj (by rw [← read_a2aAt, View.read_write_univ, read_stageAt])

end

end Cert.KernelIdeal.Steps
-- ==== Proof.KernelIdeal.Protocol.lean ====
/-
# The protocol of the exchanges

Every semaphore of the kernel is one cell with one round. A device's three partners pay its barrier cell; each hands over
the slots of its landing buffers this device sends into next. A transfer pays the sender's cell with the sent slot and the
receiver's cell with the landed slot, at named contents. The slabs of the last exchange go to all seven other devices; a
slab of a device that is no partner reaches its sender along two or three earlier transfers, which carry it (`fwd`).
-/
module

public import proofs.«01_k».proof.Proof.KernelIdeal.Contents
public import Idealize.ShloMosaic.Lib.Pipeline.Launch
public import Idealize.ShloMosaic.Lib.Pipeline.Kit
public import Idealize.ShloMosaic.Lib.Tactic

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

abbrev 𝒱₀ : Variants := Variants.none

variable (I : Ins F)

/-! ## Cells -/

abbrev barCell (c : Dev nD) : GSem nD τ sig := ((c : Thread nD τ), .reg readySem)
abbrev sendCell (c : Dev nD) (k : Fin 12) : GSem nD τ sig := ((c : Thread nD τ), .dma (sendSem k))
abbrev recvCell (c : Dev nD) (k : Fin 12) : GSem nD τ sig := ((c : Thread nD τ), .dma (recvSem k))
abbrev stageCell (c : Dev nD) (o : Fin 7) : GSem nD τ sig := ((c : Thread nD τ), .dma (stageSem o))
abbrev a2aCell (c : Dev nD) (o : Fin 7) : GSem nD τ sig := ((c : Thread nD τ), .dma (a2aSem o))

/-- The kernel's own semaphores: the out and in semaphores of the slots, then of the slabs. -/
abbrev Job : Type := (Fin 12 ⊕ Fin 12) ⊕ (Fin 7 ⊕ Fin 7)

def osem : Job → SemLoc sig
  | .inl (.inl k) => .dma (sendSem k)
  | .inl (.inr k) => .dma (recvSem k)
  | .inr (.inl o) => .dma (stageSem o)
  | .inr (.inr o) => .dma (a2aSem o)

/-- What a semaphore is for. -/
inductive Kind
  | ready
  | send (k : Fin 12)
  | recv (k : Fin 12)
  | stage (o : Fin 7)
  | slab (o : Fin 7)
  | other

def kind : SemLoc sig → Kind
  | .reg _ => .ready
  | .dma q =>
    if q.val < 8 then .other
    else if h : q.val < 20 then .send ⟨(q.val - 8) % 12, Nat.mod_lt _ (by decide)⟩
    else if h : q.val < 32 then .recv ⟨(q.val - 20) % 12, Nat.mod_lt _ (by decide)⟩
    else if h : q.val < 39 then .stage ⟨(q.val - 32) % 7, Nat.mod_lt _ (by decide)⟩
    else .slab ⟨(q.val - 39) % 7, Nat.mod_lt _ (by decide)⟩

theorem kind_ready : kind (.reg readySem) = .ready := rfl
theorem kind_send : ∀ k : Fin 12, kind (.dma (sendSem k)) = .send k := by intro k; fin_cases k <;> rfl
theorem kind_recv : ∀ k : Fin 12, kind (.dma (recvSem k)) = .recv k := by intro k; fin_cases k <;> rfl
theorem kind_stage : ∀ o : Fin 7, kind (.dma (stageSem o)) = .stage o := by intro k; fin_cases k <;> rfl
theorem kind_slab : ∀ o : Fin 7, kind (.dma (a2aSem o)) = .slab o := by intro k; fin_cases k <;> rfl

theorem osem_inj : Function.Injective osem := by
  intro i j h
  have h' := congrArg kind h
  rcases i with (i | i) | (i | i) <;> rcases j with (j | j) | (j | j) <;>
    simp only [osem, kind_send, kind_recv, kind_stage, kind_slab, Kind.send.injEq, Kind.recv.injEq, Kind.stage.injEq, Kind.slab.injEq, reduceCtorEq] at h' <;>
    rw [h']

abbrev N : ℕ := (commAt 0).view.dmaCredit
abbrev N' : ℕ := (a2aAt 0).view.dmaCredit
theorem N_pos : 0 < N := View.dmaCredit_pos _ (by decide)
theorem N'_pos : 0 < N' := View.dmaCredit_pos _ (by decide)

/-! ## Pieces of the buffers -/

section
omit [FloatOps F]

/-- A rectangle of a buffer, at some contents. -/
def anyAt {s : Shape} {e : EltTy} (M : Memref sig .tc .vmem s e) (r : Rect s) (c : Dev nD) : sProp 𝕄 :=
  iprop(∃ f : Buf (Elt F) (M.view.loc (c : Thread nD τ)), M.view.loc (c : Thread nD τ) ↦[(M.access r).set]{fullShare} f)
/-- A rectangle of a buffer, at contents that read `Y`. -/
def holdsAt {s : Shape} {e : EltTy} (M : Memref sig .tc .vmem s e) (r : Rect s) (c : Dev nD) (Y : Vec F r.shape e) : sProp 𝕄 :=
  iprop(∃ f : Buf (Elt F) (M.view.loc (c : Thread nD τ)), ⌜(M.access r).read (Elt F) f = Y⌝ ∗ (M.view.loc (c : Thread nD τ) ↦[(M.access r).set]{fullShare} f))

instance anyAt_storable {s : Shape} {e : EltTy} (M : Memref sig .tc .vmem s e) (r : Rect s) (c : Dev nD) :
    BI.Storable (upEmb : UEmb _ 𝕄) (anyAt (F := F) M r c) := by unfold anyAt; infer_instance
instance holdsAt_storable {s : Shape} {e : EltTy} (M : Memref sig .tc .vmem s e) (r : Rect s) (c : Dev nD) (Y : Vec F r.shape e) :
    BI.Storable (upEmb : UEmb _ 𝕄) (holdsAt (F := F) M r c Y) := by unfold holdsAt; infer_instance

theorem holdsAt_any {s : Shape} {e : EltTy} (M : Memref sig .tc .vmem s e) (r : Rect s) (c : Dev nD) (Y : Vec F r.shape e) :
    (holdsAt M r c Y : sProp 𝕄) ⊢ anyAt M r c := by
  unfold holdsAt anyAt
  iintro ⟨%f, -, H⟩; iexists f; iexact H

/-- Slab `o` of device `d`'s landing buffer, free to be sent into. -/
def free (d : Dev nD) (o : Fin 7) : sProp 𝕄 := iprop(anyAt a2aM (slabR o) d ∗ reached ER (a2aCell d o) 0)
/-- Slot `k` of device `d`'s landing buffer, free to be sent into. -/
def open' (d : Dev nD) (k : Fin 12) : sProp 𝕄 := iprop(anyAt commM (slotR k) d ∗ reached ER (recvCell d k) 0)

/-- The partner a device's slab `o` is handed to at the start. -/
def who : Fin 7 → Fin 3 := ![0, 0, 1, 2, 0, 0, 1]

/-- What the partner under mask `i` hands `c` at the start. -/
def barPay (c : Dev nD) (i : Fin 3) : sProp 𝕄 :=
  iprop((bigSep (Finset.univ.filter fun k => mk k = i) fun k => open' (px (mm i) c) k)
    ∗ bigSep (Finset.univ.filter fun o => who o = i) fun o => free (px (mm i) c) o)

/-- The slabs that slot `k`'s message brings `c` along. -/
def fwd (c : Dev nD) (k : Fin 12) : sProp 𝕄 :=
  if k = 2 then iprop(free (px 2 c) 1 ∗ free (px 2 c) 5)
  else if k = 4 then iprop(free (px 5 c) 4 ∗ free (px 7 c) 6 ∗ free (px 6 c) 5)
  else iprop(emp)

instance free_storable (d : Dev nD) (o : Fin 7) : BI.Storable (upEmb : UEmb _ 𝕄) (free (F := F) d o) := by unfold free; infer_instance
instance open_storable (d : Dev nD) (k : Fin 12) : BI.Storable (upEmb : UEmb _ 𝕄) (open' (F := F) d k) := by unfold open'; infer_instance
instance barPay_storable (c : Dev nD) (i : Fin 3) : BI.Storable (upEmb : UEmb _ 𝕄) (barPay (F := F) c i) := by unfold barPay; infer_instance
instance fwd_storable (c : Dev nD) (k : Fin 12) : BI.Storable (upEmb : UEmb _ 𝕄) (fwd (F := F) c k) := by
  unfold fwd
  (repeat' split) <;> infer_instance

end

/-! ## The schedule -/

def payOf (c : Dev nD) (i : Fin 3) : Kind → sProp 𝕄
  | .ready => barPay c i
  | .send k => anyAt sendM (slotR k) c
  | .recv k => iprop(holdsAt commM (slotR k) c (msg I k (pk k c)) ∗ fwd c k)
  | .stage o => anyAt stageM (slabR o) c
  | .slab o => holdsAt a2aM (slabR o) c (slab I o (po o c))
  | .other => iprop(emp)

def dutiesOf : Kind → Finset (Fin 3)
  | .ready => Finset.univ
  | .other => ∅
  | _ => {0}

def amountOf : Kind → ℕ
  | .ready => 1
  | .send _ => N
  | .recv _ => N
  | .stage _ => N'
  | .slab _ => N'
  | .other => 1

/-- One round on every cell. -/
def sched : Rounds.Schedule (GSem nD τ sig) (Fin 3) 𝕄 where
  duties g r := if r = 0 ∧ g.1.2 = .tc then dutiesOf (kind g.2) else ∅
  unitless _ := False
  amount g _ _ := amountOf (kind g.2)
  payload g _ d := payOf I g.1.1 d (kind g.2)
  amount_pos g _ _ _ := by
    cases kind g.2 <;> first | exact Nat.one_pos | exact N_pos | exact N'_pos

instance sched_storable (g : GSem nD τ sig) (r : ℕ) (d : Fin 3) : BI.Storable (upEmb : UEmb _ 𝕄) ((sched (F := F) I).payload g r d) := by
  show BI.Storable upEmb (payOf I g.1.1 d (kind g.2))
  unfold payOf
  split <;> infer_instance

section Sched

variable (c : Dev nD) (k : Fin 12) (o : Fin 7) (i : Fin 3)

theorem duties_of (sm : SemLoc sig) : (sched (F := F) I).duties ((c : Thread nD τ), sm) 0 = dutiesOf (kind sm) := by dsimp only [sched]; exact if_pos ⟨rfl, rfl⟩
theorem duties_later (g : GSem nD τ sig) : ∀ r, 0 + 1 ≤ r → (sched (F := F) I).duties g r = ∅ :=
  fun r hr => by dsimp only [sched]; exact if_neg fun h => by omega
theorem amount_of (sm : SemLoc sig) : (sched (F := F) I).amount ((c : Thread nD τ), sm) 0 i = amountOf (kind sm) := rfl
theorem payload_of (sm : SemLoc sig) : (sched (F := F) I).payload ((c : Thread nD τ), sm) 0 i = payOf I c i (kind sm) := rfl

theorem duties_bar : (sched (F := F) I).duties (barCell c) 0 = Finset.univ := duties_of I c _
theorem duties_send : (sched (F := F) I).duties (sendCell c k) 0 = {0} := by rw [duties_of, kind_send]; rfl
theorem duties_recv : (sched (F := F) I).duties (recvCell c k) 0 = {0} := by rw [duties_of, kind_recv]; rfl
theorem duties_stage : (sched (F := F) I).duties (stageCell c o) 0 = {0} := by rw [duties_of, kind_stage]; rfl
theorem duties_slab : (sched (F := F) I).duties (a2aCell c o) 0 = {0} := by rw [duties_of, kind_slab]; rfl

theorem amount_bar : (sched (F := F) I).amount (barCell c) 0 i = 1 := rfl
theorem amount_send : (sched (F := F) I).amount (sendCell c k) 0 i = N := by rw [amount_of, kind_send]; rfl
theorem amount_recv : (sched (F := F) I).amount (recvCell c k) 0 i = N := by rw [amount_of, kind_recv]; rfl
theorem amount_stage : (sched (F := F) I).amount (stageCell c o) 0 i = N' := by rw [amount_of, kind_stage]; rfl
theorem amount_slab : (sched (F := F) I).amount (a2aCell c o) 0 i = N' := by rw [amount_of, kind_slab]; rfl

theorem payload_bar : (sched (F := F) I).payload (barCell c) 0 i = barPay c i := rfl
theorem payload_send : (sched (F := F) I).payload (sendCell c k) 0 i = anyAt sendM (slotR k) c := by rw [payload_of, kind_send]; rfl
theorem payload_recv : (sched (F := F) I).payload (recvCell c k) 0 i = iprop(holdsAt commM (slotR k) c (msg I k (pk k c)) ∗ fwd c k) := by
  rw [payload_of, kind_recv]; rfl
theorem payload_stage : (sched (F := F) I).payload (stageCell c o) 0 i = anyAt stageM (slabR o) c := by rw [payload_of, kind_stage]; rfl
theorem payload_slab : (sched (F := F) I).payload (a2aCell c o) 0 i = holdsAt a2aM (slabR o) c (slab I o (po o c)) := by
  rw [payload_of, kind_slab]; rfl

theorem expect_bar : (sched (F := F) I).expect (barCell c) 0 = 3 := by
  unfold Schedule.expect Schedule.amountOf; rw [duties_bar]; rfl
theorem expect_send : (sched (F := F) I).expect (sendCell c k) 0 = N := by
  unfold Schedule.expect Schedule.amountOf; rw [duties_send, Finset.sum_singleton, amount_send]
theorem expect_recv : (sched (F := F) I).expect (recvCell c k) 0 = N := by
  unfold Schedule.expect Schedule.amountOf; rw [duties_recv, Finset.sum_singleton, amount_recv]
theorem expect_stage : (sched (F := F) I).expect (stageCell c o) 0 = N' := by
  unfold Schedule.expect Schedule.amountOf; rw [duties_stage, Finset.sum_singleton, amount_stage]
theorem expect_slab : (sched (F := F) I).expect (a2aCell c o) 0 = N' := by
  unfold Schedule.expect Schedule.amountOf; rw [duties_slab, Finset.sum_singleton, amount_slab]

theorem rest_bar : bigSep ((sched (F := F) I).duties (barCell c) 0 \ ∅) (fun i => (sched (F := F) I).payload (barCell c) 0 i) = bigSep Finset.univ (barPay (F := F) c) := by
  rw [Finset.sdiff_empty, duties_bar]; rfl
theorem rest_send : bigSep ((sched (F := F) I).duties (sendCell c k) 0 \ ∅) (fun i => (sched (F := F) I).payload (sendCell c k) 0 i) = anyAt sendM (slotR k) c := by
  rw [Finset.sdiff_empty, duties_send, bigSep_singleton, payload_send]
theorem rest_recv : bigSep ((sched (F := F) I).duties (recvCell c k) 0 \ ∅) (fun i => (sched (F := F) I).payload (recvCell c k) 0 i)
    = iprop(holdsAt commM (slotR k) c (msg I k (pk k c)) ∗ fwd c k) := by
  rw [Finset.sdiff_empty, duties_recv, bigSep_singleton, payload_recv]
theorem rest_stage : bigSep ((sched (F := F) I).duties (stageCell c o) 0 \ ∅) (fun i => (sched (F := F) I).payload (stageCell c o) 0 i) = anyAt stageM (slabR o) c := by
  rw [Finset.sdiff_empty, duties_stage, bigSep_singleton, payload_stage]
theorem rest_slab : bigSep ((sched (F := F) I).duties (a2aCell c o) 0 \ ∅) (fun i => (sched (F := F) I).payload (a2aCell c o) 0 i)
    = holdsAt a2aM (slabR o) c (slab I o (po o c)) := by
  rw [Finset.sdiff_empty, duties_slab, bigSep_singleton, payload_slab]

end Sched

/-! ## What a device owes, and the levels of the cells -/

/-- The slots from `n` on. -/
def fromS (n : ℕ) : Finset (Fin 12) := Finset.univ.filter fun k => n ≤ k.val
/-- The slabs from `n` on. -/
def fromO (n : ℕ) : Finset (Fin 7) := Finset.univ.filter fun o => n ≤ o.val

theorem fromS_succ (k : Fin 12) : fromS k.val = insert k (fromS (k.val + 1)) := by revert k; decide
theorem not_mem_fromS (k : Fin 12) : k ∉ fromS (k.val + 1) := by revert k; decide
theorem fromO_succ (o : Fin 7) : fromO o.val = insert o (fromO (o.val + 1)) := by revert o; decide
theorem not_mem_fromO (o : Fin 7) : o ∉ fromO (o.val + 1) := by revert o; decide

/-- What `c` owes to partners' cells for the slots from `n` on and the slabs from `n'` on. -/
def owed (n n' : ℕ) (c : Dev nD) : CellTallies nD τ sig Unit :=
  (∑ k ∈ fromS n, tallyAt (recvCell (pk k c) k) () N) + ∑ o ∈ fromO n', tallyAt (a2aCell (po o c) o) () N'

theorem owed_slot (k : Fin 12) (n' : ℕ) (c : Dev nD) : owed k.val n' c = owed (k.val + 1) n' c + tallyAt (recvCell (pk k c) k) () N := by
  unfold owed
  rw [fromS_succ, Finset.sum_insert (not_mem_fromS k), add_assoc, add_comm]
theorem owed_slab (n : ℕ) (o : Fin 7) (c : Dev nD) : owed n o.val c = owed n (o.val + 1) c + tallyAt (a2aCell (po o c) o) () N' := by
  unfold owed
  rw [fromO_succ, Finset.sum_insert (not_mem_fromO o), add_comm (tallyAt _ _ _), ← add_assoc]
theorem owed_none (c : Dev nD) : owed 12 7 c = 0 := by
  unfold owed
  rw [show fromS 12 = ∅ from by decide, show fromO 7 = ∅ from by decide, Finset.sum_empty, Finset.sum_empty, add_zero]

/-- What `c` owes at the start: a unit to each partner's barrier cell beside all the messages. -/
def O₀ (c : Dev nD) : CellTallies nD τ sig Unit :=
  owed 0 0 c + tallyAt (barCell (px (mm 2) c)) () 1 + tallyAt (barCell (px (mm 1) c)) () 1 + tallyAt (barCell (px (mm 0) c)) () 1

def L (g : GSem nD τ sig) : Finset Unit := if g.1.2 = .tc then {()} else ∅
def levOf : Kind → ℕ
  | .ready => 1
  | .recv k => 2 + k.val
  | .slab _ => 20
  | _ => 0
def lv (g : GSem nD τ sig) (_ : Unit) : ℕ := levOf (kind g.2)

theorem L_of_ne (g : GSem nD τ sig) (h : g.1.2 ≠ .tc) : L g = ∅ := if_neg h
theorem L_tc (c : Dev nD) (sm : SemLoc sig) : L ((c : Thread nD τ), sm) = {()} := if_pos rfl

theorem tallyAt_pos {g g' : GSem nD τ sig} {u : Unit} {n : ℕ} (h : 0 < (tallyAt g () n : CellTallies nD τ sig Unit) g' u) : g' = g := by
  rw [tallyAt_apply] at h
  split at h
  · next e => exact e.1
  · exact absurd h (Nat.lt_irrefl 0)

theorem sum_tally_pos {ι : Type} (s : Finset ι) (T : ι → CellTallies nD τ sig Unit) {g : GSem nD τ sig} {u : Unit}
    (h : 0 < (∑ i ∈ s, T i) g u) : ∃ i ∈ s, 0 < T i g u := by
  by_contra hn
  push Not at hn
  rw [Finset.sum_apply, Finsupp.finset_sum_apply] at h
  exact absurd h (by rw [Finset.sum_eq_zero fun i hi => Nat.le_zero.mp (hn i hi)]; exact Nat.lt_irrefl 0)

theorem owed_pos {n n' : ℕ} {c : Dev nD} {g : GSem nD τ sig} {u : Unit} (h : 0 < owed n n' c g u) :
    (∃ k ∈ fromS n, g = recvCell (pk k c) k) ∨ ∃ o ∈ fromO n', g = a2aCell (po o c) o := by
  unfold owed at h
  rw [Pi.add_apply, Finsupp.add_apply] at h
  rcases Nat.add_pos_iff_pos_or_pos.mp h with h | h
  · obtain ⟨k, hk, h⟩ := sum_tally_pos _ _ h
    exact .inl ⟨k, hk, tallyAt_pos h⟩
  · obtain ⟨o, ho, h⟩ := sum_tally_pos _ _ h
    exact .inr ⟨o, ho, tallyAt_pos h⟩

/-- Everything owed from slot `n` on lies above level `1 + n`. -/
theorem owed_lev {n n' : ℕ} (hn : n ≤ 12) {c : Dev nD} {g : GSem nD τ sig} {u : Unit} (h : 0 < owed n n' c g u) : u ∈ L g ∧ 1 + n < lv g u := by
  rcases owed_pos h with ⟨k, hk, rfl⟩ | ⟨o, -, rfl⟩
  · refine ⟨by rw [L_tc]; exact Finset.mem_singleton_self _, ?_⟩
    show _ < levOf (kind _)
    rw [kind_recv]
    have := (Finset.mem_filter.mp hk).2
    show 1 + n < 2 + k.val
    omega
  · refine ⟨by rw [L_tc]; exact Finset.mem_singleton_self _, ?_⟩
    show _ < levOf (kind _)
    rw [kind_slab]
    show 1 + n < 20
    omega

theorem O₀_lev {c : Dev nD} {g : GSem nD τ sig} {u : Unit} (h : 0 < O₀ c g u) : u ∈ L g ∧ 0 < lv g u := by
  unfold O₀ at h
  rw [Pi.add_apply, Finsupp.add_apply, Pi.add_apply, Finsupp.add_apply, Pi.add_apply, Finsupp.add_apply] at h
  have hb (d : Dev nD) (h : 0 < (tallyAt (barCell d) () 1 : CellTallies nD τ sig Unit) g u) : u ∈ L g ∧ 0 < lv g u := by
    obtain rfl := tallyAt_pos h
    exact ⟨by rw [L_tc]; exact Finset.mem_singleton_self _, Nat.one_pos⟩
  rcases Nat.add_pos_iff_pos_or_pos.mp h with h | h
  · rcases Nat.add_pos_iff_pos_or_pos.mp h with h | h
    · rcases Nat.add_pos_iff_pos_or_pos.mp h with h | h
      · have := owed_lev (by decide) h
        exact ⟨this.1, by omega⟩
      · exact hb _ h
    · exact hb _ h
  · exact hb _ h

omit [FloatOps F] in
/-- A device may wait on a cell whose level is at most `1 + n` while it owes slots from `n` on. -/
theorem mayWait (c : Dev nD) (sm : SemLoc sig) (n n' : ℕ) (hn : n ≤ 12) (hs : levOf (kind sm) ≤ 1 + n) :
    (levAts L lv : sProp 𝕄) ⊢ MayWait (c : Thread nD τ) sm () (owed n n' c) :=
  MayOwe.of_cut (L := L) (lev := lv) (1 + n) (fun p hp => by rw [Finset.mem_singleton.mp hp, L_tc]; exact Finset.mem_singleton_self _)
    (fun g u hg => (owed_lev hn hg).1)
    (fun p hp => by rw [Finset.mem_singleton.mp hp]; exact hs)
    (fun g u hg => (owed_lev hn hg).2)

end Cert.KernelIdeal.Steps
-- ==== Proof.KernelIdeal.Compute.lean ====
/-
# The steps that compute

Each step reads and writes the device's own buffers. A step's lemma says what the accumulator's halves are after it.
-/
module

public import proofs.«01_k».proof.Proof.KernelIdeal.Protocol

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-- The accumulator, at the halves `A`. -/
def accPts (c : Dev nD) (A : Fin 2 → Half F) : sProp 𝕄 := accM.view.loc (c : Thread nD τ) ↦{fullShare} accOf A
/-- A buffer, whole, at `f`. -/
abbrev pt (c : Dev nD) (b : Ref sig .tc) (f : b.ty.Contents (Elt F)) : sProp 𝕄 := (Memref.whole b).view.loc (c : Thread nD τ) ↦{fullShare} f

/-- The program runs on device `c` and meets `Q`. -/
abbrev run (c : Dev nD) {α : Type} (p : P (F := F) α) (Q : α → sProp 𝕄) : sProp 𝕄 := wp frame (wpE (defs₀ (F := F)) 𝒱₀ (c : Thread nD τ) none) Set.univ p Q

theorem hz2 : (![0, 0] : Fin 2 → Nat) = fun _ => 0 := funext fun a => by fin_cases a <;> rfl

theorem load_half (c : Dev nD) (A : Fin 2 → Half F) (h : Fin 2) {α : Type} {k : Half F → P (F := F) α} {Q : α → sProp 𝕄} :
    accPts c A ⊢ iprop((accPts c A -∗ run c (k (A h)) Q) -∗ run c (loadHalf h >>= k) Q) := by
  unfold accPts
  simp only [loadHalf, Prog.lift, Prog.bind_op, Prog.bind_ret]
  iintro H Hk
  iapply (wp_load 𝒱₀ (c : Thread nD τ) none Set.univ (m := accM) (r := (halfR h).toLoadRect) (S := Finset.univ) (Finset.subset_univ _)) $$ H
  rw [accOf_half]
  iexact Hk

theorem store_half (c : Dev nD) (A : Fin 2 → Half F) (h : Fin 2) (v : Half F) (Q : PUnit → sProp 𝕄) :
    accPts c A ⊢ iprop((accPts c (Function.update A h v) -∗ Q ⟨⟩) -∗ run c (storeHalf h v) Q) := by
  unfold accPts
  simp only [storeHalf, Prog.lift]
  iintro H Hk
  iapply (wp_store 𝒱₀ (c : Thread nD τ) none Set.univ (m := accM) (r := halfR h) (Mk := Finset.univ) (S := Finset.univ) (Finset.subset_univ _)) $$ H
  iintro H
  rw [accOf_write, wp_ret]
  imodintro
  iapply Hk; iexact H

/-- A weight, whole, is what its buffer holds. -/
theorem load_win (c : Dev nD) (w : Memref sig .tc .vmem S256x512 .bf16) (fw : Buf (Elt F) (w.view.loc (c : Thread nD τ))) (W : Vec F S256x512 .bf16)
    (hW : w.view.readAt (Elt F) winR.toLoadRect fw = W) {α : Type} {k : Vec F S256x512 .bf16 → P (F := F) α} {Q : α → sProp 𝕄} :
    (w.view.loc (c : Thread nD τ) ↦{fullShare} fw : sProp 𝕄) ⊢ iprop(((w.view.loc (c : Thread nD τ) ↦{fullShare} fw) -∗ run c (k W) Q) -∗ run c (loadWin w >>= k) Q) := by
  subst hW
  simp only [loadWin, Prog.lift, Prog.bind_op, Prog.bind_ret]
  exact wp_load 𝒱₀ (c : Thread nD τ) none Set.univ (m := w) (r := winR.toLoadRect) (S := Finset.univ) (Finset.subset_univ _)
theorem load_wout (c : Dev nD) (w : Memref sig .tc .vmem S512x256 .bf16) (fw : Buf (Elt F) (w.view.loc (c : Thread nD τ))) (W : Vec F S512x256 .bf16)
    (hW : w.view.readAt (Elt F) woutR.toLoadRect fw = W) {α : Type} {k : Vec F S512x256 .bf16 → P (F := F) α} {Q : α → sProp 𝕄} :
    (w.view.loc (c : Thread nD τ) ↦{fullShare} fw : sProp 𝕄) ⊢ iprop(((w.view.loc (c : Thread nD τ) ↦{fullShare} fw) -∗ run c (k W) Q) -∗ run c (loadWout w >>= k) Q) := by
  subst hW
  simp only [loadWout, Prog.lift, Prog.bind_op, Prog.bind_ret]
  exact wp_load 𝒱₀ (c : Thread nD τ) none Set.univ (m := w) (r := woutR.toLoadRect) (S := Finset.univ) (Finset.subset_univ _)

/-- The first layer's product of a half. -/
theorem first_ok (c : Dev nD) (A : Fin 2 → Half F) (h : Fin 2) (Kt : PUnit → sProp 𝕄) :
    iprop((accPts c A ∗ pt c cc0_stg0_0 (I.x c) ∗ pt c cc0_stg1_0 (I.win 0 c) ∗ pt c cc0_stg2_0 (I.wout 0 c))
        ∗ ((accPts c (Function.update A h (part I h 0 c)) ∗ pt c cc0_stg0_0 (I.x c) ∗ pt c cc0_stg1_0 (I.win 0 c) ∗ pt c cc0_stg2_0 (I.wout 0 c)) -∗ Kt ⟨⟩))
      ⊢ run c (first h) Kt := by
  unfold first
  iintro ⟨⟨HA, Hx, Hw, Ho⟩, Hk⟩
  simp only [Prog.lift, Prog.bind_op, Prog.bind_ret]
  iapply (wp_load 𝒱₀ (c : Thread nD τ) none Set.univ (m := xM) (r := (halfR h).toLoadRect) (S := Finset.univ) (Finset.subset_univ _)) $$ Hx; iintro Hx
  iapply (load_win c (Memref.whole cc0_stg1_0) (I.win 0 c) (I.win 0 c) (Memref.readAt_unit_zero (Elt F) cc0_stg1_0 hz2 _ _)) $$ Hw; iintro Hw
  iapply (load_wout c (Memref.whole cc0_stg2_0) (I.wout 0 c) (I.wout 0 c) (Memref.readAt_unit_zero (Elt F) cc0_stg2_0 hz2 _ _)) $$ Ho; iintro Ho
  iapply (load_half c A h) $$ HA; iintro HA
  iapply (store_half c A h) $$ HA; iintro HA
  iapply Hk
  isplitl [HA]; · iexact HA
  isplitl [Hx]; · iexact Hx
  isplitl [Hw] <;> iassumption

/-- A later layer's product of a half. -/
theorem next_ok (c : Dev nD) (A : Fin 2 → Half F) (h : Fin 2) (l : ℕ) (win : Memref sig .tc .vmem S256x512 .bf16) (wout : Memref sig .tc .vmem S512x256 .bf16)
    (fw : Buf (Elt F) (win.view.loc (c : Thread nD τ))) (fo : Buf (Elt F) (wout.view.loc (c : Thread nD τ)))
    (hw : win.view.readAt (Elt F) winR.toLoadRect fw = I.win (l + 1) c) (ho : wout.view.readAt (Elt F) woutR.toLoadRect fo = I.wout (l + 1) c)
    (hA : A h = bfly (part I h l) h 3 c) (Kt : PUnit → sProp 𝕄) :
    iprop((accPts c A ∗ (win.view.loc (c : Thread nD τ) ↦{fullShare} fw) ∗ (wout.view.loc (c : Thread nD τ) ↦{fullShare} fo))
        ∗ ((accPts c (Function.update A h (part I h (l + 1) c)) ∗ (win.view.loc (c : Thread nD τ) ↦{fullShare} fw) ∗ (wout.view.loc (c : Thread nD τ) ↦{fullShare} fo)) -∗ Kt ⟨⟩))
      ⊢ run c (next win wout h) Kt := by
  unfold next
  iintro ⟨⟨HA, Hw, Ho⟩, Hk⟩
  iapply (load_half c A h) $$ HA; iintro HA
  iapply (load_win c win fw _ hw) $$ Hw; iintro Hw
  iapply (load_wout c wout fo _ ho) $$ Ho; iintro Ho
  iapply (load_half c A h) $$ HA; iintro HA
  iapply (store_half c A h) $$ HA; iintro HA
  rw [hA]
  iapply Hk
  isplitl [HA]; · iexact HA
  isplitl [Hw] <;> iassumption

end Cert.KernelIdeal.Steps
-- ==== Proof.KernelIdeal.Slots.lean ====
/-
# The steps that transfer

What a slot or a slab needs before it is sent, while it is in flight, and after it is awaited, and the lemma of each
step.
-/
module

public import proofs.«01_k».proof.Proof.KernelIdeal.Compute

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

/-! ## The cells of all the devices -/

def barEmb : Dev nD ↪ GSem nD τ sig := ⟨fun c => barCell c, fun _ _ h => congrArg (fun g : GSem nD τ sig => g.1.1) h⟩
def jobEmb : Dev nD × Job ↪ GSem nD τ sig :=
  ⟨fun cj => ((cj.1 : Thread nD τ), osem cj.2), fun _ _ h =>
    Prod.ext (congrArg (fun g : GSem nD τ sig => g.1.1) h) (osem_inj (congrArg Prod.snd h))⟩

abbrev barCells : Finset (GSem nD τ sig) := Finset.univ.map barEmb
abbrev jobCells : Finset (GSem nD τ sig) := Finset.univ.map jobEmb

theorem bar_mem (c : Dev nD) : barCell c ∈ (barCells ∪ jobCells : Finset (GSem nD τ sig)) :=
  Finset.mem_union_left _ (Finset.mem_map_of_mem barEmb (Finset.mem_univ c))
theorem job_mem (c : Dev nD) (j : Job) : ((c : Thread nD τ), osem j) ∈ (barCells ∪ jobCells : Finset (GSem nD τ sig)) :=
  Finset.mem_union_right _ (Finset.mem_map_of_mem jobEmb (Finset.mem_univ (c, j)))

/-- Every cell's invariant, and that every barrier cell is open. -/
def recs (κ : GSem nD τ sig → ℕ) : sProp 𝕄 :=
  iprop((bigSep (barCells ∪ jobCells) fun g => cellInv ER (sched I) (κ g) g) ∗ bigSep barCells fun g => reached ER g 0)

instance recs_persistent (κ : GSem nD τ sig → ℕ) : BI.Persistent (recs I κ) := by unfold recs; infer_instance

variable (κ : GSem nD τ sig → ℕ)

/-- One record out of many. -/
theorem one_of {s : Finset (GSem nD τ sig)} {g : GSem nD τ sig} (h : g ∈ s) (Φ : GSem nD τ sig → sProp 𝕄) : (bigSep s Φ : sProp 𝕄) ⊢ Φ g := bigSep_elim h

theorem inv_bar (c : Dev nD) : (recs I κ : sProp 𝕄) ⊢ cellInv ER (sched I) (κ (barCell c)) (barCell c) := by
  unfold recs; iintro ⟨H, -⟩; iapply (one_of (bar_mem c) fun g => cellInv ER (sched I) (κ g) g); iexact H
theorem inv_job (c : Dev nD) (j : Job) : (recs I κ : sProp 𝕄) ⊢ cellInv ER (sched I) (κ ((c : Thread nD τ), osem j)) ((c : Thread nD τ), osem j) := by
  unfold recs; iintro ⟨H, -⟩; iapply (one_of (job_mem c j) fun g => cellInv ER (sched I) (κ g) g); iexact H
theorem bar_reached (c : Dev nD) : (recs I κ : sProp 𝕄) ⊢ reached ER (barCell c) 0 := by
  unfold recs; iintro ⟨-, H⟩; iapply (one_of (Finset.mem_map_of_mem barEmb (Finset.mem_univ c)) fun g => reached ER g 0); iexact H

/-- The device owes `O`. -/
def debt (c : Dev nD) (O : CellTallies nD τ sig Unit) : sProp 𝕄 := iprop(∃ W, owes (c : Thread nD τ) O W)

/-! ## A slot's life -/

/-- Before slot `k` is sent, but for the partner's landing slot. -/
def slotIdle (c : Dev nD) (k : Fin 12) : sProp 𝕄 :=
  iprop(atPos ER (sendCell c k) 0 ∅ 0 ∗ dutyTok ER (sendCell c k) 0 0 ∗ reached ER (sendCell c k) 0 ∗ anyAt sendM (slotR k) c
    ∗ dutyTok ER (recvCell (pk k c) k) 0 0 ∗ atPos ER (recvCell c k) 0 ∅ 0 ∗ cred (tallyAt (recvCell c k) () N))
/-- Sent. -/
def slotFlight (c : Dev nD) (k : Fin 12) : sProp 𝕄 :=
  iprop(atPos ER (sendCell c k) 0 ∅ 0 ∗ cred (tallyAt (sendCell c k) () N) ∗ atPos ER (recvCell c k) 0 ∅ 0 ∗ cred (tallyAt (recvCell c k) () N))
/-- Awaited. -/
def slotDone (c : Dev nD) (k : Fin 12) : sProp 𝕄 :=
  iprop(anyAt sendM (slotR k) c ∗ anyAt commM (slotR k) c ∗ semVal (sendCell c k) 0 ∗ semVal (recvCell c k) 0)

/-- The slots from `n` on, ready to be sent. -/
def slots (c : Dev nD) (n : ℕ) : sProp 𝕄 := bigSep (fromS n) fun k => iprop(open' (pk k c) k ∗ slotIdle c k)
/-- The slots below `n`, over. -/
def over (c : Dev nD) (n : ℕ) : sProp 𝕄 := bigSep (Finset.univ.filter fun k : Fin 12 => k.val < n) (slotDone c)

theorem slots_succ (c : Dev nD) (k : Fin 12) : (slots c k.val : sProp 𝕄) = iprop((open' (pk k c) k ∗ slotIdle c k) ∗ slots c (k.val + 1)) := by
  unfold slots
  rw [fromS_succ]
  exact bigSep_insert (not_mem_fromS k)
theorem over_succ (c : Dev nD) (k : Fin 12) : (over c (k.val + 1) : sProp 𝕄) = iprop(slotDone c k ∗ over c k.val) := by
  unfold over
  rw [show (Finset.univ.filter fun j : Fin 12 => j.val < k.val + 1) = insert k (Finset.univ.filter fun j : Fin 12 => j.val < k.val) from by
    revert k; decide]
  exact bigSep_insert (by simp)

theorem credit_send (k : Fin 12) : (sendAt k).view.dmaCredit = N := rfl
theorem credit_comm (k : Fin 12) : (commAt k).view.dmaCredit = N := rfl
theorem credit_stage (o : Fin 7) : (stageAt o).view.dmaCredit = N' := rfl
theorem credit_a2a (o : Fin 7) : (a2aAt o).view.dmaCredit = N' := rfl

/-- A finished program. -/
theorem run_ret {α : Type} (c : Dev nD) (a : α) (Q : α → sProp 𝕄) : (Q a : sProp 𝕄) ⊢ run c (.ret a) Q := by
  unfold run
  rw [wp_ret]
  iintro H
  imodintro
  iexact H

/-- A wait for a transfer on one of the device's own cells: the cell's payload, and the counter back at zero. -/
theorem wait_dma (c : Dev nD) (q : DmaSem sig) {s s' : Shape} {e e' : EltTy} {src : Memref sig .tc .vmem s' e'} {dst : Memref sig .tc .vmem s e}
    {hsrc : src.view.WordExact} {hdst : dst.view.WordExact} (n : ℕ) (hn : dst.view.dmaCredit = n)
    (he : (sched (F := F) I).expect ((c : Thread nD τ), .dma q) 0 = n) (O : CellTallies nD τ sig Unit) (Pay : sProp 𝕄)
    (hp : bigSep ((sched (F := F) I).duties ((c : Thread nD τ), .dma q) 0 \ ∅) (fun i => (sched (F := F) I).payload ((c : Thread nD τ), .dma q) 0 i) = Pay)
    (κ : ℕ) {α : Type} {k : PUnit → P (F := F) α} {Q : α → sProp 𝕄} :
    iprop(cellInv ER (sched I) κ ((c : Thread nD τ), .dma q) ∗ cred (tallyAt ((c : Thread nD τ), .dma q) () n) ∗ debt c O
        ∗ MayWait (c : Thread nD τ) (.dma q) () O ∗ atPos ER ((c : Thread nD τ), .dma q) 0 ∅ 0)
      ⊢ iprop(((debt c O ∗ semVal ((c : Thread nD τ), .dma q) 0 ∗ Pay) -∗ run c (k ⟨⟩) Q)
        -∗ run c (.op (.waitDma2 q src dst hsrc hdst) k) Q) := by
  subst hn hp
  unfold debt
  iintro ⟨#HI, Hc, ⟨%W, HO⟩, HM, Ha⟩ Hk
  iapply (Rounds.wp_wait_rest_token 𝒱₀ ER (sched I) (c : Thread nD τ) none (κ := κ)
      (wpE_waitDma2_eq 𝒱₀ (c : Thread nD τ) none Set.univ) (Set.mem_univ _) () (O := O) (W := W) (R := 0) (m := 0) (T := ∅)
      ((Nat.zero_add _).trans he.symm)) $$ [Hc HO HM Ha]
  · isplitr; · iexact HI
    isplitl [Hc]; · iexact Hc
    isplitl [HO]; · iexact HO
    isplitl [HM] <;> iassumption
  iintro ⟨HO, Ha, -, Hpay⟩
  imod (Rounds.cell_close ER (sched I) (Set.mem_univ κ) (fun h => h) (R := 0 + 1) (duties_later I ((c : Thread nD τ), .dma q))) $$ [Ha] with Hz
  · isplitr; · iexact HI
    iexact Ha
  iapply Hk
  isplitl [HO]; · iexists _; iexact HO
  isplitl [Hz] <;> iassumption

/-- Slot `k`'s transfer, holding the slot at the message: it pays the sender's cell with the slot, and the partner's with
    the landed message and the slabs it takes along. -/
theorem send_slot (c : Dev nD) (k : Fin 12) (fd : Buf (Elt F) (commM.view.loc (pk k c : Thread nD τ))) (fs : Buf (Elt F) (sendM.view.loc (c : Thread nD τ)))
    (hs : (sendM.access (slotR k)).read (Elt F) fs = msg I k c)
    {hsc : (commAt k).view.ref.isScScratch = false} {hsrc : (sendAt k).view.WordExact} {hdst : (commAt k).view.WordExact}
    {hsem : DmaTarget.Typed .vmem (.dma (recvSem k)) (.remote (Dev.tc (pk k c) : Thread nD τ) (commAt k) (.dma (sendSem k)) hsc)}
    {α : Type} {kk : PUnit → P (F := F) α} {Q : α → sProp 𝕄} :
    iprop(recs I κ ∗ (sendM.view.loc (c : Thread nD τ) ↦[(sendM.access (slotR k)).set]{fullShare} fs)
        ∗ (commM.view.loc (pk k c : Thread nD τ) ↦[(commM.access (slotR k)).set]{fullShare} fd) ∗ fwd (pk k c) k ∗ debt c (owed k.val 0 c)
        ∗ dutyTok ER (sendCell c k) 0 0 ∗ reached ER (sendCell c k) 0 ∗ dutyTok ER (recvCell (pk k c) k) 0 0 ∗ reached ER (recvCell (pk k c) k) 0)
      ⊢ iprop(((cred (tallyAt (sendCell c k) () N) ∗ debt c (owed (k.val + 1) 0 c)) -∗ run c (kk ⟨⟩) Q)
        -∗ run c (.op (.enqueueDma (sendAt k) (.remote (Dev.tc (pk k c) : Thread nD τ) (commAt k) (.dma (sendSem k)) hsc) (.dma (recvSem k)) hsrc hdst hsem) kk) Q) := by
  unfold debt
  iintro ⟨#HI, Hs, Hd, Hf, ⟨%W, HO⟩, HtS, #HrS, HtR, #HrR⟩ Hk
  rw [← set_sendAt, ← set_commAt]
  iapply (Rounds.wp_send_pointsTo_with 𝒱₀ ER (sched I) (c : Thread nD τ) none (c' := (pk k c : Thread nD τ)) (src := sendAt k) (dst := commAt k)
      (sS := .dma (sendSem k)) (sem := .dma (recvSem k)) (q := fullShare) (fs := fs)
      (κ₁ := κ (sendCell c k)) (κ₂ := κ (recvCell (pk k c) k)) (r₁ := 0) (r₂ := 0) (d₁ := 0) (d₂ := 0) (fd := fd) (F := fwd (pk k c) k)
      (by rw [duties_send]; exact Finset.mem_singleton_self _) (by rw [duties_recv]; exact Finset.mem_singleton_self _)
      () () N (credit_comm k) (amount_send I c k 0) (amount_recv I (pk k c) k 0) (owed (k.val + 1) 0 c) (owed_slot k 0 c) (W := W)
      (by
        rw [payload_send, set_sendAt]
        unfold anyAt
        iintro H; iexists _; iexact H)
      (by
        rw [payload_recv, set_commAt, pk_pk]
        unfold holdsAt
        iintro ⟨H, Hf⟩
        isplitr [Hf]
        · iexists _
          isplitr
          · ipureintro
            exact (landed_slot k fd fs).trans hs
          iexact H
        iexact Hf)) $$ [Hs Hd Hf HO HtS HtR]
  · isplitr; · iapply (inv_job I κ c (.inl (.inl k))); iexact HI
    isplitr; · iapply (inv_job I κ (pk k c) (.inl (.inr k))); iexact HI
    isplitl [Hs]; · iexact Hs
    isplitl [Hd Hf]; · isplitl [Hd] <;> iassumption
    isplitl [HO]; · iexact HO
    isplitl [HtS]; · iexact HtS
    isplitr; · iexact HrS
    isplitl [HtR]; · iexact HtR
    iexact HrR
  iintro ⟨HcS, HO⟩
  iapply Hk
  isplitl [HcS]; · iexact HcS
  iexists W; iexact HO

/-- Slot `k` is sent to its partner, and takes along the slabs `fwd` names. -/
theorem start_ok (c : Dev nD) (k : Fin 12) (dst : Dev nD) (hdst : dst = pk k c) (A : Fin 2 → Half F) (hA : A (hf k) = atSlot I k c) (Kt : PUnit → sProp 𝕄) :
    iprop((recs I κ ∗ accPts c A ∗ slots c k.val ∗ fwd (pk k c) k ∗ debt c (owed k.val 0 c))
        ∗ ((accPts c A ∗ slots c (k.val + 1) ∗ slotFlight c k ∗ debt c (owed (k.val + 1) 0 c)) -∗ Kt ⟨⟩))
      ⊢ run c (start k dst) Kt := by
  subst hdst
  unfold start
  rw [slots_succ]
  unfold slotIdle open' anyAt
  iintro ⟨⟨#HI, HA, ⟨⟨⟨⟨%fd, Hd⟩, #HrR⟩, HaS, HtS, #HrS, ⟨%fs, Hs⟩, HtR, HaR, HcR⟩, Hsl⟩, Hf, HO⟩, Hk⟩
  iapply (load_half c A (hf k)) $$ HA; iintro HA
  simp only [Prog.lift, Prog.bind_op, Prog.bind_ret]
  iapply (wp_load 𝒱₀ (c : Thread nD τ) none Set.univ (m := sendM) (r := (slotR k).toLoadRect) (S := (sendM.access (slotR k)).set) (by rw [View.set_slice]; exact Finset.Subset.refl _)) $$ Hs; iintro Hs
  iapply (wp_store 𝒱₀ (c : Thread nD τ) none Set.univ (m := sendM) (r := slotR k) (Mk := Finset.univ) (S := (sendM.access (slotR k)).set) (Finset.Subset.refl _)) $$ Hs; iintro Hs
  rw [hA]
  iapply (send_slot I κ c k fd _ (View.read_write_univ (v := sendM.access (slotR k)) _ _)) $$ [Hs Hd Hf HO HtS HtR]
  · isplitr; · iexact HI
    isplitl [Hs]; · iexact Hs
    isplitl [Hd]; · iexact Hd
    isplitl [Hf]; · iexact Hf
    isplitl [HO]; · iexact HO
    isplitl [HtS]; · iexact HtS
    isplitr; · iexact HrS
    isplitl [HtR]; · iexact HtR
    iexact HrR
  iintro ⟨HcS, HO⟩
  iapply run_ret
  iapply Hk
  isplitl [HA]; · iexact HA
  isplitl [Hsl]; · iexact Hsl
  isplitr [HO]
  · unfold slotFlight
    isplitl [HaS]; · iexact HaS
    isplitl [HcS]; · iexact HcS
    isplitl [HaR] <;> iassumption
  iexact HO

/-- Slot `k` has landed and is not yet added. -/
def slotLanded (c : Dev nD) (k : Fin 12) : sProp 𝕄 :=
  iprop(anyAt sendM (slotR k) c ∗ holdsAt commM (slotR k) c (msg I k (pk k c)) ∗ semVal (sendCell c k) 0 ∗ semVal (recvCell c k) 0)

/-- Slot `k` is awaited: the partner's message is here, and the slabs it took along. -/
theorem await_ok (c : Dev nD) (k : Fin 12) (n n' : ℕ) (hn : n ≤ 12) (hk : k.val < n) (Kt : PUnit → sProp 𝕄) :
    iprop((recs I κ ∗ levAts L lv ∗ slotFlight c k ∗ debt c (owed n n' c))
        ∗ ((slotLanded I c k ∗ fwd c k ∗ debt c (owed n n' c)) -∗ Kt ⟨⟩))
      ⊢ run c (await k) Kt := by
  unfold await slotFlight
  iintro ⟨⟨#HI, #Hlev, ⟨HaS, HcS, HaR, HcR⟩, HO⟩, Hk⟩
  simp only [Prog.lift, Prog.bind_op, Prog.bind_ret]
  iapply (wait_dma I c (sendSem k) N (credit_send k) (expect_send I c k) (owed n n' c) _ (rest_send I c k) (κ (sendCell c k))) $$ [HcS HO HaS]
  · isplitr; · iapply (inv_job I κ c (.inl (.inl k))); iexact HI
    isplitl [HcS]; · iexact HcS
    isplitl [HO]; · iexact HO
    isplitr; · iapply (mayWait (F := F) c (.dma (sendSem k)) n n' hn (by rw [kind_send]; exact Nat.zero_le _)); iexact Hlev
    iexact HaS
  iintro ⟨HO, HzS, Hs⟩
  iapply (wait_dma I c (recvSem k) N (credit_comm k) (expect_recv I c k) (owed n n' c) _ (rest_recv I c k) (κ (recvCell c k))) $$ [HcR HO HaR]
  · isplitr; · iapply (inv_job I κ c (.inl (.inr k))); iexact HI
    isplitl [HcR]; · iexact HcR
    isplitl [HO]; · iexact HO
    isplitr; · iapply (mayWait (F := F) c (.dma (recvSem k)) n n' hn (by rw [kind_recv]; show 2 + k.val ≤ _; omega)); iexact Hlev
    iexact HaR
  iintro ⟨HO, HzR, Hr, Hf⟩
  iapply run_ret
  iapply Hk
  isplitr [Hf HO]
  · unfold slotLanded
    isplitl [Hs]; · iexact Hs
    isplitl [Hr]; · iexact Hr
    isplitl [HzS] <;> iassumption
  isplitl [Hf]; · iexact Hf
  iexact HO

/-- The landed message is added to its half. -/
theorem add_ok (c : Dev nD) (k : Fin 12) (A : Fin 2 → Half F) (hA : A (hf k) = atSlot I k c) (Kt : PUnit → sProp 𝕄) :
    iprop((accPts c A ∗ slotLanded I c k ∗ over c k.val) ∗ ((accPts c (Function.update A (hf k) (added I k c)) ∗ over c (k.val + 1)) -∗ Kt ⟨⟩))
      ⊢ run c (add k) Kt := by
  unfold add slotLanded holdsAt
  rw [over_succ]
  iintro ⟨⟨HA, ⟨Hs, ⟨%f, %hr, Hr⟩, HzS, HzR⟩, Ho⟩, Hk⟩
  iapply (load_half c A (hf k)) $$ HA; iintro HA
  simp only [Prog.lift, Prog.bind_op, Prog.bind_ret]
  iapply (wp_load 𝒱₀ (c : Thread nD τ) none Set.univ (m := commM) (r := (slotR k).toLoadRect) (S := (commM.access (slotR k)).set) (by rw [View.set_slice]; exact Finset.Subset.refl _)) $$ Hr; iintro Hr
  rw [View.readAt_rect, hr, hA]
  iapply (load_half c A (hf k)) $$ HA; iintro HA
  iapply (store_half c A (hf k)) $$ HA; iintro HA
  iapply Hk
  isplitl [HA]; · iexact HA
  isplitr [Ho]
  · unfold slotDone anyAt
    isplitl [Hs]; · iexact Hs
    isplitl [Hr]; · iexists f; iexact Hr
    isplitl [HzS] <;> iassumption
  iexact Ho

end Cert.KernelIdeal.Steps
-- ==== Proof.KernelIdeal.Slabs.lean ====
/-
# The last exchange

Each device sends every other device the rows of the sum that belong to it, and adds the seven slabs that land to its
own rows.
-/
module

public import proofs.«01_k».proof.Proof.KernelIdeal.Slots

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

variable (κ : GSem nD τ sig → ℕ)

omit [FloatOps F] in
/-- A device that owes nothing may wait. -/
theorem mayWait_none (c : Dev nD) (sm : SemLoc sig) : (levAts L lv : sProp 𝕄) ⊢ MayWait (c : Thread nD τ) sm () (owed 12 7 c) := by
  rw [owed_none, MayWait_zero]
  iintro -
  iempintro

/-! ## A slab's life -/

/-- Before slab `o` is sent, but for the partner's landing slab. -/
def slabIdle (c : Dev nD) (o : Fin 7) : sProp 𝕄 :=
  iprop(atPos ER (stageCell c o) 0 ∅ 0 ∗ dutyTok ER (stageCell c o) 0 0 ∗ reached ER (stageCell c o) 0 ∗ anyAt stageM (slabR o) c
    ∗ dutyTok ER (a2aCell (po o c) o) 0 0 ∗ atPos ER (a2aCell c o) 0 ∅ 0 ∗ cred (tallyAt (a2aCell c o) () N'))
/-- Sent. -/
def slabFlight (c : Dev nD) (o : Fin 7) : sProp 𝕄 :=
  iprop(atPos ER (stageCell c o) 0 ∅ 0 ∗ cred (tallyAt (stageCell c o) () N') ∗ atPos ER (a2aCell c o) 0 ∅ 0 ∗ cred (tallyAt (a2aCell c o) () N'))
/-- Awaited: the partner's slab is here. -/
def slabDone (c : Dev nD) (o : Fin 7) : sProp 𝕄 :=
  iprop(anyAt stageM (slabR o) c ∗ holdsAt a2aM (slabR o) c (slab I o (po o c)) ∗ semVal (stageCell c o) 0 ∗ semVal (a2aCell c o) 0)

/-- The slabs from `n` on, ready to be sent. -/
def slabs (c : Dev nD) (n : ℕ) : sProp 𝕄 := bigSep (fromO n) (slabIdle c)
/-- The slabs below `n`, sent. -/
def aloft (c : Dev nD) (n : ℕ) : sProp 𝕄 := bigSep (Finset.univ.filter fun o : Fin 7 => o.val < n) (slabFlight c)
/-- The slabs from `n` on, sent and not awaited. -/
def flying (c : Dev nD) (n : ℕ) : sProp 𝕄 := bigSep (fromO n) (slabFlight c)
/-- The slabs below `n`, awaited. -/
def gone (c : Dev nD) (n : ℕ) : sProp 𝕄 := bigSep (Finset.univ.filter fun o : Fin 7 => o.val < n) (slabDone I c)

theorem below_succ : ∀ o : Fin 7, (Finset.univ.filter fun j : Fin 7 => j.val < o.val + 1) = insert o (Finset.univ.filter fun j : Fin 7 => j.val < o.val) := by decide

theorem slabs_succ (c : Dev nD) (o : Fin 7) : (slabs c o.val : sProp 𝕄) = iprop(slabIdle c o ∗ slabs c (o.val + 1)) := by
  unfold slabs
  rw [fromO_succ]
  exact bigSep_insert (not_mem_fromO o)
theorem flying_succ (c : Dev nD) (o : Fin 7) : (flying c o.val : sProp 𝕄) = iprop(slabFlight c o ∗ flying c (o.val + 1)) := by
  unfold flying
  rw [fromO_succ]
  exact bigSep_insert (not_mem_fromO o)
theorem aloft_succ (c : Dev nD) (o : Fin 7) : (aloft c (o.val + 1) : sProp 𝕄) = iprop(slabFlight c o ∗ aloft c o.val) := by
  unfold aloft
  rw [below_succ]
  exact bigSep_insert (by simp)
theorem gone_succ (c : Dev nD) (o : Fin 7) : (gone I c (o.val + 1) : sProp 𝕄) = iprop(slabDone I c o ∗ gone I c o.val) := by
  unfold gone
  rw [below_succ]
  exact bigSep_insert (by simp)
theorem aloft_all (c : Dev nD) : (aloft c 7 : sProp 𝕄) = flying c 0 := rfl

/-- Slab `o`'s transfer, holding the slab at the message. -/
theorem send_slab (c : Dev nD) (o : Fin 7) (fd : Buf (Elt F) (a2aM.view.loc (po o c : Thread nD τ))) (fs : Buf (Elt F) (stageM.view.loc (c : Thread nD τ)))
    (hs : (stageM.access (slabR o)).read (Elt F) fs = slab I o c)
    {hsc : (a2aAt o).view.ref.isScScratch = false} {hsrc : (stageAt o).view.WordExact} {hdst : (a2aAt o).view.WordExact}
    {hsem : DmaTarget.Typed .vmem (.dma (a2aSem o)) (.remote (Dev.tc (po o c) : Thread nD τ) (a2aAt o) (.dma (stageSem o)) hsc)}
    {α : Type} {kk : PUnit → P (F := F) α} {Q : α → sProp 𝕄} :
    iprop(recs I κ ∗ (stageM.view.loc (c : Thread nD τ) ↦[(stageM.access (slabR o)).set]{fullShare} fs)
        ∗ (a2aM.view.loc (po o c : Thread nD τ) ↦[(a2aM.access (slabR o)).set]{fullShare} fd) ∗ debt c (owed 12 o.val c)
        ∗ dutyTok ER (stageCell c o) 0 0 ∗ reached ER (stageCell c o) 0 ∗ dutyTok ER (a2aCell (po o c) o) 0 0 ∗ reached ER (a2aCell (po o c) o) 0)
      ⊢ iprop(((cred (tallyAt (stageCell c o) () N') ∗ debt c (owed 12 (o.val + 1) c)) -∗ run c (kk ⟨⟩) Q)
        -∗ run c (.op (.enqueueDma (stageAt o) (.remote (Dev.tc (po o c) : Thread nD τ) (a2aAt o) (.dma (stageSem o)) hsc) (.dma (a2aSem o)) hsrc hdst hsem) kk) Q) := by
  unfold debt
  iintro ⟨#HI, Hs, Hd, ⟨%W, HO⟩, HtS, #HrS, HtR, #HrR⟩ Hk
  rw [← set_stageAt, ← set_a2aAt]
  iapply (Rounds.wp_send_pointsTo_with 𝒱₀ ER (sched I) (c : Thread nD τ) none (c' := (po o c : Thread nD τ)) (src := stageAt o) (dst := a2aAt o)
      (sS := .dma (stageSem o)) (sem := .dma (a2aSem o)) (q := fullShare) (fs := fs)
      (κ₁ := κ (stageCell c o)) (κ₂ := κ (a2aCell (po o c) o)) (r₁ := 0) (r₂ := 0) (d₁ := 0) (d₂ := 0) (fd := fd) (F := iprop(emp))
      (by rw [duties_stage]; exact Finset.mem_singleton_self _) (by rw [duties_slab]; exact Finset.mem_singleton_self _)
      () () N' (credit_a2a o) (amount_stage I c o 0) (amount_slab I (po o c) o 0) (owed 12 (o.val + 1) c) (owed_slab 12 o c) (W := W)
      (by
        rw [payload_stage, set_stageAt]
        unfold anyAt
        iintro H; iexists _; iexact H)
      (by
        rw [payload_slab, set_a2aAt, po_po]
        unfold holdsAt
        iintro ⟨H, -⟩
        iexists _
        isplitr
        · ipureintro
          exact (landed_slab o fd fs).trans hs
        iexact H)) $$ [Hs Hd HO HtS HtR]
  · isplitr; · iapply (inv_job I κ c (.inr (.inl o))); iexact HI
    isplitr; · iapply (inv_job I κ (po o c) (.inr (.inr o))); iexact HI
    isplitl [Hs]; · iexact Hs
    isplitl [Hd]
    · isplitl [Hd]; · iexact Hd
      iempintro
    isplitl [HO]; · iexact HO
    isplitl [HtS]; · iexact HtS
    isplitr; · iexact HrS
    isplitl [HtR]; · iexact HtR
    iexact HrR
  iintro ⟨HcS, HO⟩
  iapply Hk
  isplitl [HcS]; · iexact HcS
  iexists W; iexact HO

/-- Slab `o` is sent to its partner. -/
theorem scatter_ok (c : Dev nD) (o : Fin 7) (dst : Dev nD) (hdst : dst = po o c) (A : Fin 2 → Half F) (hA : accOf A = accFin I c) (Kt : PUnit → sProp 𝕄) :
    iprop((recs I κ ∗ accPts c A ∗ slabs c o.val ∗ aloft c o.val ∗ free (po o c) o ∗ debt c (owed 12 o.val c))
        ∗ ((accPts c A ∗ slabs c (o.val + 1) ∗ aloft c (o.val + 1) ∗ debt c (owed 12 (o.val + 1) c)) -∗ Kt ⟨⟩))
      ⊢ run c (scatter c o dst) Kt := by
  subst hdst
  unfold scatter accPts
  rw [slabs_succ, aloft_succ, hA]
  unfold slabIdle free anyAt
  iintro ⟨⟨#HI, HA, ⟨⟨HaS, HtS, #HrS, ⟨%fs, Hs⟩, HtR, HaR, HcR⟩, Hsl⟩, Hal, ⟨⟨%fd, Hd⟩, #HrR⟩, HO⟩, Hk⟩
  simp only [Prog.lift, Prog.bind_op, Prog.bind_ret]
  iapply (wp_load 𝒱₀ (c : Thread nD τ) none Set.univ (m := accM) (r := (peerRows c o).toLoadRect) (S := Finset.univ) (Finset.subset_univ _)) $$ HA; iintro HA
  iapply (wp_load 𝒱₀ (c : Thread nD τ) none Set.univ (m := stageM) (r := (slabR o).toLoadRect) (S := (stageM.access (slabR o)).set) (by rw [View.set_slice]; exact Finset.Subset.refl _)) $$ Hs; iintro Hs
  iapply (wp_store 𝒱₀ (c : Thread nD τ) none Set.univ (m := stageM) (r := slabR o) (Mk := Finset.univ) (S := (stageM.access (slabR o)).set) (Finset.Subset.refl _)) $$ Hs; iintro Hs
  iapply (send_slab I κ c o fd _ (View.read_write_univ (v := stageM.access (slabR o)) _ _)) $$ [Hs Hd HO HtS HtR]
  · isplitr; · iexact HI
    isplitl [Hs]; · iexact Hs
    isplitl [Hd]; · iexact Hd
    isplitl [HO]; · iexact HO
    isplitl [HtS]; · iexact HtS
    isplitr; · iexact HrS
    isplitl [HtR]; · iexact HtR
    iexact HrR
  iintro ⟨HcS, HO⟩
  iapply run_ret
  iapply Hk
  isplitl [HA]; · iexact HA
  isplitl [Hsl]; · iexact Hsl
  isplitr [HO]
  · isplitr [Hal]
    · unfold slabFlight
      isplitl [HaS]; · iexact HaS
      isplitl [HcS]; · iexact HcS
      isplitl [HaR] <;> iassumption
    iexact Hal
  iexact HO

/-- Slab `o` is awaited. -/
theorem gather_ok (c : Dev nD) (o : Fin 7) (Kt : PUnit → sProp 𝕄) :
    iprop((recs I κ ∗ levAts L lv ∗ flying c o.val ∗ gone I c o.val ∗ debt c (owed 12 7 c))
        ∗ ((flying c (o.val + 1) ∗ gone I c (o.val + 1) ∗ debt c (owed 12 7 c)) -∗ Kt ⟨⟩))
      ⊢ run c (gather o) Kt := by
  unfold gather
  rw [flying_succ, gone_succ]
  unfold slabFlight
  iintro ⟨⟨#HI, #Hlev, ⟨⟨HaS, HcS, HaR, HcR⟩, Hfl⟩, Hg, HO⟩, Hk⟩
  simp only [Prog.lift, Prog.bind_op, Prog.bind_ret]
  iapply (wait_dma I c (stageSem o) N' (credit_stage o) (expect_stage I c o) (owed 12 7 c) _ (rest_stage I c o) (κ (stageCell c o))) $$ [HcS HO HaS]
  · isplitr; · iapply (inv_job I κ c (.inr (.inl o))); iexact HI
    isplitl [HcS]; · iexact HcS
    isplitl [HO]; · iexact HO
    isplitr; · iapply (mayWait_none (F := F) c (.dma (stageSem o))); iexact Hlev
    iexact HaS
  iintro ⟨HO, HzS, Hs⟩
  iapply (wait_dma I c (a2aSem o) N' (credit_a2a o) (expect_slab I c o) (owed 12 7 c) _ (rest_slab I c o) (κ (a2aCell c o))) $$ [HcR HO HaR]
  · isplitr; · iapply (inv_job I κ c (.inr (.inr o))); iexact HI
    isplitl [HcR]; · iexact HcR
    isplitl [HO]; · iexact HO
    isplitr; · iapply (mayWait_none (F := F) c (.dma (a2aSem o))); iexact Hlev
    iexact HaR
  iintro ⟨HO, HzR, Hr⟩
  iapply run_ret
  iapply Hk
  isplitl [Hfl]; · iexact Hfl
  isplitr [HO]
  · isplitr [Hg]
    · unfold slabDone
      isplitl [Hs]; · iexact Hs
      isplitl [Hr]; · iexact Hr
      isplitl [HzS] <;> iassumption
    iexact Hg
  iexact HO

/-- A landed slab, read. -/
theorem load_slab (c : Dev nD) (o : Fin 7) {α : Type} {k : Vec F S1x32x256 .bf16 → P (F := F) α} {Q : α → sProp 𝕄} :
    (gone I c 7 : sProp 𝕄) ⊢ iprop((gone I c 7 -∗ run c (k (slab I o (po o c))) Q) -∗ run c (loadSlab o >>= k) Q) := by
  have e : (gone I c 7 : sProp 𝕄) = iprop(slabDone I c o ∗ bigSep ((Finset.univ.filter fun j : Fin 7 => j.val < 7).erase o) (slabDone I c)) :=
    bigSep_erase (Finset.mem_filter.mpr ⟨Finset.mem_univ o, o.isLt⟩)
  rw [e]
  unfold slabDone holdsAt
  simp only [loadSlab, Prog.lift, Prog.bind_op, Prog.bind_ret]
  iintro ⟨⟨Hs, ⟨%f, %hr, Hr⟩, HzS, HzR⟩, Hg⟩ Hk
  iapply (wp_load 𝒱₀ (c : Thread nD τ) none Set.univ (m := a2aM) (r := (slabR o).toLoadRect) (S := (a2aM.access (slabR o)).set) (by rw [View.set_slice]; exact Finset.Subset.refl _)) $$ Hr; iintro Hr
  rw [View.readAt_rect, hr]
  iapply Hk
  isplitr [Hg]
  · isplitl [Hs]; · iexact Hs
    isplitl [Hr]
    · iexists f
      isplitr; · ipureintro; exact hr
      iexact Hr
    isplitl [HzS] <;> iassumption
  iexact Hg

/-- The device's own rows and the landed slabs are added into the result. -/
theorem total_ok (c : Dev nD) (A : Fin 2 → Half F) (hA : accOf A = accFin I c) (f0 : cc0_stg7_0.ty.Contents (Elt F)) (Kt : PUnit → sProp 𝕄) :
    iprop((accPts c A ∗ gone I c 7 ∗ pt c cc0_stg7_0 f0) ∗ ((accPts c A ∗ gone I c 7 ∗ pt c cc0_stg7_0 (out I c)) -∗ Kt ⟨⟩))
      ⊢ run c (total c) Kt := by
  have e : ∀ v : Vec F S32x256 .f32, (outM.access outR).write (Elt F) f0 v Finset.univ = v := fun v =>
    Memref.write_access_unit_zero_univ (Elt F) cc0_stg7_0 hz2 _ f0 v
  unfold total accPts
  rw [hA]
  iintro ⟨⟨HA, Hg, Ho⟩, Hk⟩
  simp only [Prog.lift, Prog.bind_op, Prog.bind_ret]
  iapply (wp_load 𝒱₀ (c : Thread nD τ) none Set.univ (m := accM) (r := (ownRows c).toLoadRect) (S := Finset.univ) (Finset.subset_univ _)) $$ HA; iintro HA
  iapply (load_slab I c 0) $$ Hg; iintro Hg
  iapply (load_slab I c 1) $$ Hg; iintro Hg
  iapply (load_slab I c 2) $$ Hg; iintro Hg
  iapply (load_slab I c 3) $$ Hg; iintro Hg
  iapply (load_slab I c 4) $$ Hg; iintro Hg
  iapply (load_slab I c 5) $$ Hg; iintro Hg
  iapply (load_slab I c 6) $$ Hg; iintro Hg
  simp only [Prog.lift, Prog.bind_op, Prog.bind_ret]
  iapply (wp_load 𝒱₀ (c : Thread nD τ) none Set.univ (m := outM) (r := outR.toLoadRect) (S := Finset.univ) (Finset.subset_univ _)) $$ Ho; iintro Ho
  iapply (wp_store 𝒱₀ (c : Thread nD τ) none Set.univ (m := outM) (r := outR) (Mk := Finset.univ) (S := Finset.univ) (Finset.subset_univ _)) $$ Ho; iintro Ho
  iapply run_ret
  rw [e]
  iapply Hk
  isplitl [HA]; · iexact HA
  isplitl [Hg]; · iexact Hg
  iexact Ho

end Cert.KernelIdeal.Steps
-- ==== Proof.KernelIdeal.Scratch.lean ====
/-
# The scratch buffers and their slots

A buffer held whole is its slots held apart, and the slots, whatever each holds, are the buffer again.
-/
module

public import proofs.«01_k».proof.Proof.KernelIdeal.Slabs
public import Idealize.ShloMosaic.Lib.Ring

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

section
variable {s : Shape} {e : EltTy} (M : Memref sig .tc .vmem s e) {n : ℕ} (r : Fin n → Rect s) (c : Dev nD)

/-- The elements of the buffer under one of the rectangles. -/
abbrev under (i : Fin n) : Finset (Idx (M.view.loc (c : Thread nD τ))) := (M.access (r i)).set

theorem anyAt_intro (i : Fin n) (f : Buf (Elt F) (M.view.loc (c : Thread nD τ))) :
    (M.view.loc (c : Thread nD τ) ↦[under M r c i]{fullShare} f : sProp 𝕄) ⊢ anyAt M (r i) c := by
  unfold anyAt under
  iintro H
  iexists f
  iexact H

variable (hd : ∀ i j, i ≠ j → Disjoint (under M r c i) (under M r c j)) (hc : Finset.univ.biUnion (under M r c) = Finset.univ)

include hd hc

theorem split_any : iprop(∃ f : Buf (Elt F) (M.view.loc (c : Thread nD τ)), M.view.loc (c : Thread nD τ) ↦{fullShare} f) ⊢ (bigSep Finset.univ fun i => anyAt M (r i) c : sProp 𝕄) := by
  iintro ⟨%f, H⟩
  ihave H' := (Entails.of_eq (Ring.pointsTo_blocks (ℓ := M.view.loc (c : Thread nD τ)) (under M r c) hd hc (q := fullShare) f)) $$ H
  iapply (show bigSep Finset.univ (fun i => M.view.loc (c : Thread nD τ) ↦[under M r c i]{fullShare} f)
      ⊢ (bigSep Finset.univ fun i => anyAt M (r i) c : sProp 𝕄) from
    bigSep_mono fun i _ => anyAt_intro M r c i f)
  iexact H'

theorem join_any (f₀ : Buf (Elt F) (M.view.loc (c : Thread nD τ))) : (bigSep Finset.univ fun i => anyAt M (r i) c : sProp 𝕄)
    ⊢ iprop(∃ f : Buf (Elt F) (M.view.loc (c : Thread nD τ)), M.view.loc (c : Thread nD τ) ↦{fullShare} f) :=
  Ring.pointsTo_blocks_join_exists (ℓ := M.view.loc (c : Thread nD τ)) (under M r c) hd hc (q := fullShare) f₀

end

theorem slot_disjoint (M : Memref sig .tc .vmem S12x128x256 .bf16) (i j : Fin 12) (h : i ≠ j) :
    Disjoint (M.access (slotR i)).set (M.access (slotR j)).set :=
  View.disjoint_slice_of_sep _ _ _ (0 : Fin 3) rfl rfl (by
    show i.val + 1 ≤ j.val ∨ j.val + 1 ≤ i.val
    have := fun e => h (Fin.ext e); omega)
theorem slab_disjoint (M : Memref sig .tc .vmem S7x32x256 .bf16) (i j : Fin 7) (h : i ≠ j) :
    Disjoint (M.access (slabR i)).set (M.access (slabR j)).set :=
  View.disjoint_slice_of_sep _ _ _ (0 : Fin 3) rfl rfl (by
    show i.val + 1 ≤ j.val ∨ j.val + 1 ≤ i.val
    have := fun e => h (Fin.ext e); omega)

theorem slot_cover : Finset.univ.biUnion (fun k => (slotR k).set) = Finset.univ :=
  Ring.lead_cover (s := S12x128x256) (NB := 12) 0 1 (fun k => ![k.val, 0, 0]) S1x128x256.size slot_inb (fun k => (Nat.one_mul _).symm)
    (by decide) rfl (by decide) rfl
theorem slab_cover : Finset.univ.biUnion (fun o => (slabR o).set) = Finset.univ :=
  Ring.lead_cover (s := S7x32x256) (NB := 7) 0 1 (fun k => ![k.val, 0, 0]) S1x32x256.size slab_inb (fun k => (Nat.one_mul _).symm)
    (by decide) rfl (by decide) rfl

/-! ## The five scratch buffers -/

theorem send_split (c : Dev nD) : iprop(∃ f : Buf (Elt F) ((c : Thread nD τ).loc cc0_scratch1), (c : Thread nD τ).loc cc0_scratch1 ↦{fullShare} f)
    ⊢ (bigSep Finset.univ fun k => anyAt sendM (slotR k) c : sProp 𝕄) :=
  split_any sendM slotR c (slot_disjoint sendM) ((Finset.biUnion_congr rfl fun k _ => View.set_slice_whole _ _).trans slot_cover)
theorem comm_split (c : Dev nD) : iprop(∃ f : Buf (Elt F) ((c : Thread nD τ).loc cc0_scratch2), (c : Thread nD τ).loc cc0_scratch2 ↦{fullShare} f)
    ⊢ (bigSep Finset.univ fun k => anyAt commM (slotR k) c : sProp 𝕄) :=
  split_any commM slotR c (slot_disjoint commM) ((Finset.biUnion_congr rfl fun k _ => View.set_slice_whole _ _).trans slot_cover)
theorem stage_split (c : Dev nD) : iprop(∃ f : Buf (Elt F) ((c : Thread nD τ).loc cc0_scratch3), (c : Thread nD τ).loc cc0_scratch3 ↦{fullShare} f)
    ⊢ (bigSep Finset.univ fun o => anyAt stageM (slabR o) c : sProp 𝕄) :=
  split_any stageM slabR c (slab_disjoint stageM) ((Finset.biUnion_congr rfl fun k _ => View.set_slice_whole _ _).trans slab_cover)
theorem a2a_split (c : Dev nD) : iprop(∃ f : Buf (Elt F) ((c : Thread nD τ).loc cc0_scratch4), (c : Thread nD τ).loc cc0_scratch4 ↦{fullShare} f)
    ⊢ (bigSep Finset.univ fun o => anyAt a2aM (slabR o) c : sProp 𝕄) :=
  split_any a2aM slabR c (slab_disjoint a2aM) ((Finset.biUnion_congr rfl fun k _ => View.set_slice_whole _ _).trans slab_cover)

theorem send_join (c : Dev nD) : (bigSep Finset.univ fun k => anyAt sendM (slotR k) c : sProp 𝕄)
    ⊢ iprop(∃ f : Buf (Elt F) ((c : Thread nD τ).loc cc0_scratch1), (c : Thread nD τ).loc cc0_scratch1 ↦{fullShare} f) :=
  join_any sendM slotR c (slot_disjoint sendM) ((Finset.biUnion_congr rfl fun k _ => View.set_slice_whole _ _).trans slot_cover) (constant S12x128x256 .bf16 0)
theorem comm_join (c : Dev nD) : (bigSep Finset.univ fun k => anyAt commM (slotR k) c : sProp 𝕄)
    ⊢ iprop(∃ f : Buf (Elt F) ((c : Thread nD τ).loc cc0_scratch2), (c : Thread nD τ).loc cc0_scratch2 ↦{fullShare} f) :=
  join_any commM slotR c (slot_disjoint commM) ((Finset.biUnion_congr rfl fun k _ => View.set_slice_whole _ _).trans slot_cover) (constant S12x128x256 .bf16 0)
theorem stage_join (c : Dev nD) : (bigSep Finset.univ fun o => anyAt stageM (slabR o) c : sProp 𝕄)
    ⊢ iprop(∃ f : Buf (Elt F) ((c : Thread nD τ).loc cc0_scratch3), (c : Thread nD τ).loc cc0_scratch3 ↦{fullShare} f) :=
  join_any stageM slabR c (slab_disjoint stageM) ((Finset.biUnion_congr rfl fun k _ => View.set_slice_whole _ _).trans slab_cover) (constant S7x32x256 .bf16 0)
theorem a2a_join (c : Dev nD) : (bigSep Finset.univ fun o => anyAt a2aM (slabR o) c : sProp 𝕄)
    ⊢ iprop(∃ f : Buf (Elt F) ((c : Thread nD τ).loc cc0_scratch4), (c : Thread nD τ).loc cc0_scratch4 ↦{fullShare} f) :=
  join_any a2aM slabR c (slab_disjoint a2aM) ((Finset.biUnion_congr rfl fun k _ => View.set_slice_whole _ _).trans slab_cover) (constant S7x32x256 .bf16 0)

/-- The accumulator held at some contents is held as two halves. -/
theorem acc_split (c : Dev nD) : iprop(∃ f : Buf (Elt F) ((c : Thread nD τ).loc cc0_scratch0), (c : Thread nD τ).loc cc0_scratch0 ↦{fullShare} f)
    ⊢ (iprop(∃ A, accPts c A) : sProp 𝕄) := by
  iintro ⟨%f, H⟩
  obtain ⟨A, rfl⟩ := acc_surj f
  iexists A; unfold accPts; iexact H

end Cert.KernelIdeal.Steps
-- ==== Proof.KernelIdeal.Enter.lean ====
/-
# Entering

A device tells its three partners it has entered, and with that hands them its landing slots and slabs; it waits for
the three, and holds theirs.
-/
module

public import proofs.«01_k».proof.Proof.KernelIdeal.Slabs

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

variable (κ : GSem nD τ sig → ℕ)

/-- What a device hands its partner under mask `i`. -/
def give (c : Dev nD) (i : Fin 3) : sProp 𝕄 :=
  iprop((bigSep (Finset.univ.filter fun k => mk k = i) fun k => open' c k) ∗ bigSep (Finset.univ.filter fun o => who o = i) fun o => free c o)

section
omit [FloatOps F]

theorem barPay_partner (c : Dev nD) (i : Fin 3) : (barPay (px (mm i) c) i : sProp 𝕄) = give c i := by
  unfold barPay give
  rw [px_px]

theorem give_all (c : Dev nD) : (bigSep Finset.univ (give c) : sProp 𝕄) = iprop(bigSep Finset.univ (open' c) ∗ bigSep Finset.univ (free c)) := by
  unfold give
  rw [bigSep_sep', bigSep_fiberwise Finset.univ mk (open' c), bigSep_fiberwise Finset.univ who (free c),
    show Finset.univ.image mk = Finset.univ from by decide, show Finset.univ.image who = Finset.univ from by decide]

theorem open_of (c : Dev nD) (i : Fin 3) : (bigSep (Finset.univ.filter fun k => mk k = i) fun k => open' (px (mm i) c) k : sProp 𝕄)
    = bigSep (Finset.univ.filter fun k => mk k = i) fun k => open' (pk k c) k :=
  bigSep_congr fun k hk => by rw [← (Finset.mem_filter.mp hk).2]; rfl
theorem free_of (c : Dev nD) (i : Fin 3) : (bigSep (Finset.univ.filter fun o => who o = i) fun o => free (px (mm i) c) o : sProp 𝕄)
    = bigSep (Finset.univ.filter fun o => who o = i) fun o => free (px (mm (who o)) c) o :=
  bigSep_congr fun o ho => by rw [(Finset.mem_filter.mp ho).2]

theorem pay_all (c : Dev nD) : (bigSep Finset.univ (barPay c) : sProp 𝕄)
    = iprop((bigSep Finset.univ fun k => open' (pk k c) k) ∗ bigSep Finset.univ fun o => free (px (mm (who o)) c) o) := by
  unfold barPay
  rw [bigSep_sep', bigSep_fiberwise Finset.univ mk (fun k => open' (pk k c) k), bigSep_fiberwise Finset.univ who (fun o => free (px (mm (who o)) c) o),
    show Finset.univ.image mk = Finset.univ from by decide, show Finset.univ.image who = Finset.univ from by decide]
  rw [bigSep_congr fun i _ => open_of c i, bigSep_congr fun i _ => free_of c i]

theorem three (Φ : Fin 3 → sProp 𝕄) : (bigSep Finset.univ Φ : sProp 𝕄) = iprop(Φ 0 ∗ Φ 1 ∗ Φ 2) := by
  rw [show (Finset.univ : Finset (Fin 3)) = insert 0 (insert 1 {2}) from by decide, bigSep_insert (by decide), bigSep_insert (by decide), bigSep_singleton]
  rfl

end

/-- A device signals its partner under mask `i`. -/
theorem signal_ok (c : Dev nD) (i : Fin 3) (dst : Dev nD) (hdst : dst = px (mm i) c) (O : CellTallies nD τ sig Unit)
    {α : Type} {k : PUnit → P (F := F) α} {Q : α → sProp 𝕄} :
    iprop(recs I κ ∗ dutyTok ER (barCell (px (mm i) c)) 0 i ∗ give c i ∗ debt c (O + tallyAt (barCell (px (mm i) c)) () 1))
      ⊢ iprop((debt c O -∗ run c (k ⟨⟩) Q) -∗ run c (semSignalWord dst readySem 1#32 >>= k) Q) := by
  subst hdst
  unfold debt
  simp only [semSignalWord, Prog.bind_op, Prog.bind_ret]
  iintro ⟨#HI, Ht, Hg, ⟨%W, HO⟩⟩ Hk
  iapply (Rounds.wp_signal 𝒱₀ ER (sched I) (c : Thread nD τ) none (dst := (px (mm i) c : Thread nD τ)) (sem := readySem) (r := 0) (d := i)
      (κ := κ (barCell (px (mm i) c))) (by rw [duties_bar]; exact Finset.mem_univ i) (amount_bar I (px (mm i) c) i) () O rfl (W := W)) $$ [HO Ht Hg]
  · isplitr; · iapply (inv_bar I κ (px (mm i) c)); iexact HI
    isplitl [HO]; · iexact HO
    isplitl [Ht]; · iexact Ht
    isplitl [Hg]
    · rw [payload_bar, barPay_partner]
      iexact Hg
    iapply (bar_reached I κ (px (mm i) c)); iexact HI
  iintro HO
  iapply Hk
  iexists W; iexact HO

/-- Entering. -/
theorem enter_ok (c : Dev nD) (Kt : PUnit → sProp 𝕄) :
    iprop((recs I κ ∗ levAts L lv ∗ (bigSep Finset.univ fun i : Fin 3 => dutyTok ER (barCell (px (mm i) c)) 0 i) ∗ atPos ER (barCell c) 0 ∅ 0
          ∗ cred (tallyAt (barCell c) () 3) ∗ debt c (O₀ c) ∗ bigSep Finset.univ (open' c) ∗ bigSep Finset.univ (free c))
        ∗ ((semVal (barCell c) 0 ∗ debt c (owed 0 0 c) ∗ (bigSep Finset.univ fun k => open' (pk k c) k)
            ∗ bigSep Finset.univ fun o => free (px (mm (who o)) c) o) -∗ Kt ⟨⟩))
      ⊢ run c (enter c) Kt := by
  unfold enter O₀
  rw [← give_all, three, three]
  iintro ⟨⟨#HI, #Hlev, ⟨Ht0, Ht1, Ht2⟩, Ha, Hc, HO, Hg0, Hg1, Hg2⟩, Hk⟩
  iapply (signal_ok I κ c 0 _ (dev1_eq c)) $$ [Ht0 Hg0 HO]
  · isplitr; · iexact HI
    isplitl [Ht0]; · iexact Ht0
    isplitl [Hg0] <;> iassumption
  iintro HO
  iapply (signal_ok I κ c 1 _ (dev2_eq c)) $$ [Ht1 Hg1 HO]
  · isplitr; · iexact HI
    isplitl [Ht1]; · iexact Ht1
    isplitl [Hg1] <;> iassumption
  iintro HO
  iapply (signal_ok I κ c 2 _ (dev3_eq c)) $$ [Ht2 Hg2 HO]
  · isplitr; · iexact HI
    isplitl [Ht2]; · iexact Ht2
    isplitl [Hg2] <;> iassumption
  iintro HO
  unfold debt
  icases HO with ⟨%W, HO⟩
  simp only [semWaitWord]
  iapply (Rounds.wp_wait_rest_token 𝒱₀ ER (sched I) (c : Thread nD τ) none (κ := κ (barCell c))
      (wpE_semWait_eq 𝒱₀ (c : Thread nD τ) none Set.univ) (Set.mem_univ _) () (O := owed 0 0 c) (W := W) (R := 0) (m := 0) (T := ∅)
      ((Nat.zero_add 3).trans (expect_bar I c).symm)) $$ [Hc HO Ha]
  · isplitr; · iapply (inv_bar I κ c); iexact HI
    isplitl [Hc]; · iexact Hc
    isplitl [HO]; · iexact HO
    isplitr; · iapply (mayWait (F := F) c (.reg readySem) 0 0 (Nat.zero_le _) (Nat.le_refl _)); iexact Hlev
    iexact Ha
  iintro ⟨HO, Ha, -, Hpay⟩
  imod (Rounds.cell_close ER (sched I) (Set.mem_univ (κ (barCell c))) (fun h => h) (R := 0 + 1) (duties_later I (barCell c))) $$ [Ha] with Hz
  · isplitr; · iapply (inv_bar I κ c); iexact HI
    iexact Ha
  ihave Hp := (Entails.of_eq ((rest_bar I c).trans (pay_all c))) $$ Hpay
  icases Hp with ⟨Hop, Hfr⟩
  iapply run_ret
  iapply Hk
  isplitl [Hz]; · iexact Hz
  isplitl [HO]; · iexists _; iexact HO
  isplitl [Hop] <;> iassumption

end Cert.KernelIdeal.Steps
-- ==== Proof.KernelIdeal.Walk.lean ====
/-
# The whole body

The steps in order, from what a device holds when it enters to what it holds at the end.
-/
module

public import proofs.«01_k».proof.Proof.KernelIdeal.Enter

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

variable (κ : GSem nD τ sig → ℕ)

theorem run_bind (c : Dev nD) {α β : Type} (p : P (F := F) α) (k : α → P (F := F) β) (Q : β → sProp 𝕄) :
    run c (p >>= k) Q = run c p fun a => run c (k a) Q := wp_bind _ _ _ p k Q

/-- Slot `k` is awaited and added. -/
theorem turn_ok (c : Dev nD) (k : Fin 12) (n n' : ℕ) (hn : n ≤ 12) (hk : k.val < n) (A A' : Fin 2 → Half F) (hA : A (hf k) = atSlot I k c)
    (hA' : Function.update A (hf k) (added I k c) = A') {α : Type} {kk : PUnit → P (F := F) α} {Q : α → sProp 𝕄} :
    iprop((recs I κ ∗ levAts L lv ∗ slotFlight c k ∗ accPts c A ∗ over c k.val ∗ debt c (owed n n' c))
        ∗ ((accPts c A' ∗ over c (k.val + 1) ∗ fwd c k ∗ debt c (owed n n' c)) -∗ run c (kk ⟨⟩) Q))
      ⊢ run c (await k >>= fun _ => add k >>= kk) Q := by
  subst hA'
  iintro ⟨⟨#HI, #Hlev, Hf, HA, Ho, HO⟩, Hk⟩
  rw [run_bind]
  iapply (await_ok I κ c k n n' hn hk)
  isplitl [Hf HO]
  · isplitr; · iexact HI
    isplitr; · iexact Hlev
    isplitl [Hf] <;> iassumption
  iintro ⟨Hl, Hw, HO⟩
  rw [run_bind]
  iapply (add_ok I c k A hA)
  isplitl [HA Hl Ho]
  · isplitl [HA]; · iexact HA
    isplitl [Hl] <;> iassumption
  iintro ⟨HA, Ho⟩
  iapply Hk
  isplitl [HA]; · iexact HA
  isplitl [Ho]; · iexact Ho
  isplitl [Hw] <;> iassumption

/-- Between two steps: slots `k` and `k'` are in flight, those from `m` on are still to be sent; `G` is held beside. -/
def state (c : Dev nD) (k k' : Fin 12) (m : ℕ) (A : Fin 2 → Half F) (G : sProp 𝕄) : sProp 𝕄 :=
  iprop(accPts c A ∗ over c k.val ∗ debt c (owed m 0 c) ∗ slots c m ∗ slotFlight c k ∗ slotFlight c k' ∗ G)

/-- What every device knows all along. -/
def know : sProp 𝕄 := iprop(recs I κ ∗ levAts L lv)

instance know_persistent : BI.Persistent (know I κ) := by unfold know; infer_instance

/-- The half just completed is sent on in slot `j`. -/
theorem send_on (c : Dev nD) (k k' j : Fin 12) (hk' : k'.val = k.val + 1) (dst : Dev nD) (hdst : dst = pk j c) (A : Fin 2 → Half F) (hj : A (hf j) = atSlot I j c)
    (G G' : sProp 𝕄) (hG : iprop(G ∗ fwd c k) ⊢ iprop(fwd (pk j c) j ∗ G')) {α : Type} {kk : PUnit → P (F := F) α} {Q : α → sProp 𝕄} :
    iprop(know I κ ∗ accPts c A ∗ over c (k.val + 1) ∗ fwd c k ∗ debt c (owed j.val 0 c) ∗ slots c j.val ∗ slotFlight c k' ∗ G)
      ⊢ iprop((state c k' j (j.val + 1) A G' -∗ run c (kk ⟨⟩) Q) -∗ run c (start j dst >>= kk) Q) := by
  unfold know state
  rw [hk']
  iintro ⟨⟨#HI, #Hlev⟩, HA, Ho, Hw, HO, Hs, Hf', HG⟩ Hk
  ihave HG := hG $$ [HG Hw]
  · isplitl [HG] <;> iassumption
  icases HG with ⟨Hw, HG⟩
  rw [run_bind]
  iapply (start_ok I κ c j dst hdst A hj)
  isplitl [HA Hs Hw HO]
  · isplitr; · iexact HI
    isplitl [HA]; · iexact HA
    isplitl [Hs]; · iexact Hs
    isplitl [Hw] <;> iassumption
  iintro ⟨HA, Hs, Hf, HO⟩
  iapply Hk
  isplitl [HA]; · iexact HA
  isplitl [Ho]; · iexact Ho
  isplitl [HO]; · iexact HO
  isplitl [Hs]; · iexact Hs
  isplitl [Hf']; · iexact Hf'
  isplitl [Hf] <;> iassumption

/-- Slot `k` is awaited and added, and the half is sent on in slot `j`. -/
theorem relay_ok (c : Dev nD) (k k' j : Fin 12) (hk' : k'.val = k.val + 1) (hkj : k.val < j.val) (dst : Dev nD) (hdst : dst = pk j c) (A A' : Fin 2 → Half F)
    (hA : A (hf k) = atSlot I k c) (hA' : Function.update A (hf k) (added I k c) = A') (hj : A' (hf j) = atSlot I j c) (G G' : sProp 𝕄)
    (hG : iprop(G ∗ fwd c k) ⊢ iprop(fwd (pk j c) j ∗ G')) {α : Type} {kk : PUnit → P (F := F) α} {Q : α → sProp 𝕄} :
    iprop(know I κ ∗ state c k k' j.val A G)
      ⊢ iprop((state c k' j (j.val + 1) A' G' -∗ run c (kk ⟨⟩) Q) -∗ run c (await k >>= fun _ => add k >>= fun _ => start j dst >>= kk) Q) := by
  unfold state
  iintro ⟨#HK, HA, Ho, HO, Hs, Hf, Hf', HG⟩ Hk
  iapply (turn_ok I κ c k j.val 0 (by omega) hkj A A' hA hA')
  isplitl [Hf HA Ho HO]
  · unfold know
    icases HK with ⟨#HI, #Hlev⟩
    isplitr; · iexact HI
    isplitr; · iexact Hlev
    isplitl [Hf]; · iexact Hf
    isplitl [HA]; · iexact HA
    isplitl [Ho] <;> iassumption
  iintro ⟨HA, Ho, Hw, HO⟩
  iapply (send_on I κ c k k' j hk' dst hdst A' hj G G' hG) $$ [HA Ho Hw HO Hs Hf' HG]
  · isplitr; · iexact HK
    isplitl [HA]; · iexact HA
    isplitl [Ho]; · iexact Ho
    isplitl [Hw]; · iexact Hw
    isplitl [HO]; · iexact HO
    isplitl [Hs]; · iexact Hs
    isplitl [Hf'] <;> iassumption
  unfold state
  iexact Hk

/-- Slot `k` is awaited and added, which completes a layer's sum; the half's product of the next layer follows. -/
theorem layer_ok (c : Dev nD) (k : Fin 12) (n : ℕ) (hn : n ≤ 12) (hk : k.val < n) (l : ℕ) (A A' : Fin 2 → Half F) (hA : A (hf k) = atSlot I k c)
    (hs : added I k c = bfly (part I (hf k) l) (hf k) 3 c) (hA' : Function.update A (hf k) (part I (hf k) (l + 1) c) = A')
    (win : Memref sig .tc .vmem S256x512 .bf16) (wout : Memref sig .tc .vmem S512x256 .bf16)
    (fw : Buf (Elt F) (win.view.loc (c : Thread nD τ))) (fo : Buf (Elt F) (wout.view.loc (c : Thread nD τ)))
    (hw : win.view.readAt (Elt F) winR.toLoadRect fw = I.win (l + 1) c) (ho : wout.view.readAt (Elt F) woutR.toLoadRect fo = I.wout (l + 1) c)
    {α : Type} {kk : PUnit → P (F := F) α} {Q : α → sProp 𝕄} :
    iprop((recs I κ ∗ levAts L lv ∗ slotFlight c k ∗ accPts c A ∗ over c k.val ∗ debt c (owed n 0 c)
          ∗ (win.view.loc (c : Thread nD τ) ↦{fullShare} fw) ∗ (wout.view.loc (c : Thread nD τ) ↦{fullShare} fo))
        ∗ ((accPts c A' ∗ over c (k.val + 1) ∗ fwd c k ∗ debt c (owed n 0 c)
            ∗ (win.view.loc (c : Thread nD τ) ↦{fullShare} fw) ∗ (wout.view.loc (c : Thread nD τ) ↦{fullShare} fo)) -∗ run c (kk ⟨⟩) Q))
      ⊢ run c (await k >>= fun _ => add k >>= fun _ => next win wout (hf k) >>= kk) Q := by
  subst hA'
  iintro ⟨⟨#HI, #Hlev, Hf, HA, Ho, HO, Hw, Hu⟩, Hk⟩
  iapply (turn_ok I κ c k n 0 hn hk A _ hA rfl)
  isplitl [Hf HA Ho HO]
  · isplitr; · iexact HI
    isplitr; · iexact Hlev
    isplitl [Hf]; · iexact Hf
    isplitl [HA]; · iexact HA
    isplitl [Ho] <;> iassumption
  iintro ⟨HA, Ho, Hx, HO⟩
  rw [run_bind]
  iapply (next_ok I c (Function.update A (hf k) (added I k c)) (hf k) l win wout fw fo hw ho ((Function.update_self _ _ _).trans hs))
  isplitl [HA Hw Hu]
  · isplitl [HA]; · iexact HA
    isplitl [Hw] <;> iassumption
  rw [Function.update_idem]
  iintro ⟨HA, Hw, Hu⟩
  iapply Hk
  isplitl [HA]; · iexact HA
  isplitl [Ho]; · iexact Ho
  isplitl [Hx]; · iexact Hx
  isplitl [HO]; · iexact HO
  isplitl [Hw] <;> iassumption

/-- The same, and the product is sent on in slot `j`. -/
theorem relay_layer_ok (c : Dev nD) (k k' j : Fin 12) (hk' : k'.val = k.val + 1) (hkj : k.val < j.val) (dst : Dev nD) (hdst : dst = pk j c) (l : ℕ) (A A' : Fin 2 → Half F)
    (hA : A (hf k) = atSlot I k c) (hs : added I k c = bfly (part I (hf k) l) (hf k) 3 c) (hA' : Function.update A (hf k) (part I (hf k) (l + 1) c) = A')
    (hj : A' (hf j) = atSlot I j c) (win : Memref sig .tc .vmem S256x512 .bf16) (wout : Memref sig .tc .vmem S512x256 .bf16)
    (fw : Buf (Elt F) (win.view.loc (c : Thread nD τ))) (fo : Buf (Elt F) (wout.view.loc (c : Thread nD τ)))
    (hw : win.view.readAt (Elt F) winR.toLoadRect fw = I.win (l + 1) c) (ho : wout.view.readAt (Elt F) woutR.toLoadRect fo = I.wout (l + 1) c)
    (G G' : sProp 𝕄) (hG : iprop(G ∗ fwd c k) ⊢ iprop(fwd (pk j c) j ∗ G')) {α : Type} {kk : PUnit → P (F := F) α} {Q : α → sProp 𝕄} :
    iprop(know I κ ∗ state c k k' j.val A G ∗ (win.view.loc (c : Thread nD τ) ↦{fullShare} fw) ∗ (wout.view.loc (c : Thread nD τ) ↦{fullShare} fo))
      ⊢ iprop(((state c k' j (j.val + 1) A' G' ∗ (win.view.loc (c : Thread nD τ) ↦{fullShare} fw) ∗ (wout.view.loc (c : Thread nD τ) ↦{fullShare} fo)) -∗ run c (kk ⟨⟩) Q)
        -∗ run c (await k >>= fun _ => add k >>= fun _ => next win wout (hf k) >>= fun _ => start j dst >>= kk) Q) := by
  unfold state
  iintro ⟨#HK, ⟨HA, Ho, HO, Hs, Hf, Hf', HG⟩, Hw, Hu⟩ Hk
  iapply (layer_ok I κ c k j.val (by omega) hkj l A A' hA hs hA' win wout fw fo hw ho)
  isplitl [Hf HA Ho HO Hw Hu]
  · unfold know
    icases HK with ⟨#HI, #Hlev⟩
    isplitr; · iexact HI
    isplitr; · iexact Hlev
    isplitl [Hf]; · iexact Hf
    isplitl [HA]; · iexact HA
    isplitl [Ho]; · iexact Ho
    isplitl [HO]; · iexact HO
    isplitl [Hw] <;> iassumption
  iintro ⟨HA, Ho, Hx, HO, Hw, Hu⟩
  iapply (send_on I κ c k k' j hk' dst hdst A' hj G G' hG) $$ [HA Ho Hx HO Hs Hf' HG]
  · isplitr; · iexact HK
    isplitl [HA]; · iexact HA
    isplitl [Ho]; · iexact Ho
    isplitl [Hx]; · iexact Hx
    isplitl [HO]; · iexact HO
    isplitl [Hs]; · iexact Hs
    isplitl [Hf'] <;> iassumption
  unfold state
  iintro H
  iapply Hk
  isplitl [H]; · iexact H
  isplitl [Hw] <;> iassumption

/-! ## The slabs a device is handed, and those it passes on -/

section
omit [FloatOps F]

/-- Most messages take nothing along. -/
theorem fwd_none (c : Dev nD) (k : Fin 12) (h2 : k ≠ 2) (h4 : k ≠ 4) : (fwd c k : sProp 𝕄) = iprop(emp) := by
  unfold fwd
  rw [if_neg h2, if_neg h4]

theorem fwd_two (c : Dev nD) : (fwd c 2 : sProp 𝕄) = iprop(free (px 2 c) 1 ∗ free (px 2 c) 5) := rfl
theorem fwd_four (c : Dev nD) : (fwd c 4 : sProp 𝕄) = iprop(free (px 5 c) 4 ∗ free (px 7 c) 6 ∗ free (px 6 c) 5) := rfl

theorem pass_none (c : Dev nD) (k j : Fin 12) (h2 : k ≠ 2) (h4 : k ≠ 4) (h2' : j ≠ 2) (h4' : j ≠ 4) (G : sProp 𝕄) :
    iprop(G ∗ fwd c k) ⊢ iprop(fwd (pk j c) j ∗ G) := by
  rw [fwd_none c k h2 h4, fwd_none (pk j c) j h2' h4']
  iintro ⟨H, H'⟩
  isplitl [H'] <;> iassumption

/-- Slot 2 takes along the two slabs the partner under mask 1 handed over for the device's partner. -/
theorem pass_two (c : Dev nD) (G : sProp 𝕄) : iprop(((free (px 1 c) 1 ∗ free (px 1 c) 5) ∗ G) ∗ fwd c 0) ⊢ iprop(fwd (pk 2 c) 2 ∗ G) := by
  rw [fwd_none c 0 (by decide) (by decide), fwd_two, show px 2 (pk 2 c) = px 1 c from by revert c; decide]
  iintro ⟨⟨H, HG⟩, -⟩
  isplitl [H] <;> iassumption

/-- Slot 4 takes along two more, and one that slot 2 brought. -/
theorem pass_four (c : Dev nD) : iprop((free (px 1 c) 4 ∗ free (px 3 c) 6) ∗ fwd c 2) ⊢ (iprop(fwd (pk 4 c) 4 ∗ free (px 2 c) 1) : sProp 𝕄) := by
  rw [fwd_two, fwd_four, show px 5 (pk 4 c) = px 1 c from by revert c; decide, show px 7 (pk 4 c) = px 3 c from by revert c; decide,
    show px 6 (pk 4 c) = px 2 c from by revert c; decide]
  iintro ⟨⟨H4, H6⟩, H1, H5⟩
  isplitr [H1]
  · isplitl [H4]; · iexact H4
    isplitl [H6] <;> iassumption
  iexact H1

/-- What slot 4 brings stays. -/
theorem keep_four (c : Dev nD) (G : sProp 𝕄) : iprop(G ∗ fwd c 4) ⊢ iprop(fwd (pk 6 c) 6 ∗ G ∗ fwd c 4) := by
  rw [fwd_none (pk 6 c) 6 (by decide) (by decide)]
  iintro H
  isplitr; · iempintro
  iexact H

theorem seven (Φ : Fin 7 → sProp 𝕄) : (bigSep Finset.univ Φ : sProp 𝕄) = iprop(Φ 0 ∗ Φ 1 ∗ Φ 2 ∗ Φ 3 ∗ Φ 4 ∗ Φ 5 ∗ Φ 6) := by
  rw [show (Finset.univ : Finset (Fin 7)) = insert 0 (insert 1 (insert 2 (insert 3 (insert 4 (insert 5 {6}))))) from by decide,
    bigSep_insert (by decide), bigSep_insert (by decide), bigSep_insert (by decide), bigSep_insert (by decide), bigSep_insert (by decide),
    bigSep_insert (by decide), bigSep_singleton]
  rfl

theorem handed (c : Dev nD) : (bigSep Finset.univ fun o => free (px (mm (who o)) c) o : sProp 𝕄)
    = iprop(free (po 0 c) 0 ∗ free (px 1 c) 1 ∗ free (po 2 c) 2 ∗ free (po 3 c) 3 ∗ free (px 1 c) 4 ∗ free (px 1 c) 5 ∗ free (px 3 c) 6) := seven _

end

theorem slots_all (c : Dev nD) : (slots c 0 : sProp 𝕄) = iprop((bigSep Finset.univ fun k => open' (pk k c) k) ∗ bigSep Finset.univ (slotIdle c)) := by
  unfold slots
  rw [show fromS 0 = Finset.univ from by decide, bigSep_sep']

/-! ## The body -/

/-- What the first layer reads. -/
def inputs (c : Dev nD) : sProp 𝕄 := iprop(pt c cc0_stg0_0 (I.x c) ∗ pt c cc0_stg1_0 (I.win 0 c) ∗ pt c cc0_stg2_0 (I.wout 0 c))

/-- The two products of the first layer, and the first two sends. -/
theorem begin_ok (c : Dev nD) (A₀ : Fin 2 → Half F) (G : sProp 𝕄) {α : Type} {kk : PUnit → P (F := F) α} {Q : α → sProp 𝕄} :
    iprop(know I κ ∗ accPts c A₀ ∗ inputs I c ∗ slots c 0 ∗ over c 0 ∗ debt c (owed 0 0 c) ∗ G)
      ⊢ iprop(((state c 0 1 2 ![atSlot I 0 c, atSlot I 1 c] G ∗ inputs I c) -∗ run c (kk ⟨⟩) Q)
        -∗ run c (first 0 >>= fun _ => start 0 (pk 0 c) >>= fun _ => first 1 >>= fun _ => start 1 (pk 1 c) >>= kk) Q) := by
  have e : Function.update (Function.update A₀ (hf 0) (atSlot I 0 c)) 1 (part I 1 0 c) = ![atSlot I 0 c, atSlot I 1 c] := by
    funext h
    fin_cases h <;> rfl
  unfold inputs know state
  iintro ⟨⟨#HI, #Hlev⟩, HA, Hin, Hs, Hov, HO, HG⟩ Hk
  rw [run_bind]
  iapply (first_ok I c A₀ 0)
  isplitl [HA Hin]; · isplitl [HA] <;> iassumption
  iintro ⟨HA, Hin⟩
  rw [run_bind]
  iapply (start_ok I κ c 0 _ rfl _ (Function.update_self _ _ _))
  isplitl [HA Hs HO]
  · isplitr; · iexact HI
    isplitl [HA]; · iexact HA
    isplitl [Hs]; · iexact Hs
    rw [fwd_none _ 0 (by decide) (by decide)]
    isplitr; · iempintro
    iexact HO
  iintro ⟨HA, Hs, Hf0, HO⟩
  rw [run_bind]
  iapply (first_ok I c _ 1)
  isplitl [HA Hin]; · isplitl [HA] <;> iassumption
  rw [e]
  iintro ⟨HA, Hin⟩
  rw [run_bind]
  iapply (start_ok I κ c 1 _ rfl ![atSlot I 0 c, atSlot I 1 c] rfl)
  isplitl [HA Hs HO]
  · isplitr; · iexact HI
    isplitl [HA]; · iexact HA
    isplitl [Hs]; · iexact Hs
    rw [fwd_none _ 1 (by decide) (by decide)]
    isplitr; · iempintro
    iexact HO
  iintro ⟨HA, Hs, Hf1, HO⟩
  iapply Hk
  isplitr [Hin]
  · isplitl [HA]; · iexact HA
    isplitl [Hov]; · iexact Hov
    isplitl [HO]; · iexact HO
    isplitl [Hs]; · iexact Hs
    isplitl [Hf0]; · iexact Hf0
    isplitl [Hf1] <;> iassumption
  iexact Hin

theorem upd0 (a b v : Half F) : Function.update ![a, b] 0 v = ![v, b] := by funext h; fin_cases h <;> rfl
theorem upd1 (a b v : Half F) : Function.update ![a, b] 1 v = ![a, v] := by funext h; fin_cases h <;> rfl

/-- The exchanges of the three layers, up to the last two sums. -/
theorem exchanges_ok (c : Dev nD) {α : Type} {kk : PUnit → P (F := F) α} {Q : α → sProp 𝕄} :
    iprop(know I κ ∗ state c 0 1 2 ![atSlot I 0 c, atSlot I 1 c] iprop((free (px 1 c) 1 ∗ free (px 1 c) 5) ∗ (free (px 1 c) 4 ∗ free (px 3 c) 6))
        ∗ pt c cc0_stg3_0 (I.win 1 c) ∗ pt c cc0_stg4_0 (I.wout 1 c))
      ⊢ iprop(((state c 10 11 12 ![atSlot I 10 c, atSlot I 11 c] iprop(free (px 2 c) 1 ∗ fwd c 4) ∗ pt c cc0_stg3_0 (I.win 1 c) ∗ pt c cc0_stg4_0 (I.wout 1 c))
            -∗ run c (kk ⟨⟩) Q)
        -∗ run c (do
            await 0; add 0; start 2 (pk 2 c)
            await 1; add 1; start 3 (pk 3 c)
            await 2; add 2; start 4 (pk 4 c)
            await 3; add 3; start 5 (pk 5 c)
            await 4; add 4; next (Memref.whole cc0_stg3_0) (Memref.whole cc0_stg4_0) 0; start 6 (pk 6 c)
            await 5; add 5; next (Memref.whole cc0_stg3_0) (Memref.whole cc0_stg4_0) 1; start 7 (pk 7 c)
            await 6; add 6; start 8 (pk 8 c)
            await 7; add 7; start 9 (pk 9 c)
            await 8; add 8; start 10 (pk 10 c)
            await 9; add 9; start 11 (pk 11 c) >>= kk) Q) := by
  iintro ⟨#HK, H, Hw, Hu⟩ Hk
  iapply (relay_ok I κ c 0 1 2 rfl (by decide) _ rfl _ ![atSlot I 2 c, atSlot I 1 c] rfl (upd0 _ _ _) rfl _ _ (pass_two c _)) $$ [H]
  · isplitr; · iexact HK
    iexact H
  iintro H
  iapply (relay_ok I κ c 1 2 3 rfl (by decide) _ rfl _ ![atSlot I 2 c, atSlot I 3 c] rfl (upd1 _ _ _) rfl _ _ (pass_none c 1 3 (by decide) (by decide) (by decide) (by decide) _)) $$ [H]
  · isplitr; · iexact HK
    iexact H
  iintro H
  iapply (relay_ok I κ c 2 3 4 rfl (by decide) _ rfl _ ![atSlot I 4 c, atSlot I 3 c] rfl (upd0 _ _ _) rfl _ _ (pass_four c)) $$ [H]
  · isplitr; · iexact HK
    iexact H
  iintro H
  iapply (relay_ok I κ c 3 4 5 rfl (by decide) _ rfl _ ![atSlot I 4 c, atSlot I 5 c] rfl (upd1 _ _ _) rfl _ _ (pass_none c 3 5 (by decide) (by decide) (by decide) (by decide) _)) $$ [H]
  · isplitr; · iexact HK
    iexact H
  iintro H
  iapply (relay_layer_ok I κ c 4 5 6 rfl (by decide) _ rfl 0 _ ![atSlot I 6 c, atSlot I 5 c] rfl rfl (upd0 _ _ _) rfl (Memref.whole cc0_stg3_0) (Memref.whole cc0_stg4_0)
      (I.win 1 c) (I.wout 1 c) (Memref.readAt_unit_zero (Elt F) cc0_stg3_0 hz2 _ _) (Memref.readAt_unit_zero (Elt F) cc0_stg4_0 hz2 _ _) _ _ (keep_four c _)) $$ [H Hw Hu]
  · isplitr; · iexact HK
    isplitl [H]; · iexact H
    isplitl [Hw] <;> iassumption
  iintro ⟨H, Hw, Hu⟩
  iapply (relay_layer_ok I κ c 5 6 7 rfl (by decide) _ rfl 0 _ ![atSlot I 6 c, atSlot I 7 c] rfl rfl (upd1 _ _ _) rfl (Memref.whole cc0_stg3_0) (Memref.whole cc0_stg4_0)
      (I.win 1 c) (I.wout 1 c) (Memref.readAt_unit_zero (Elt F) cc0_stg3_0 hz2 _ _) (Memref.readAt_unit_zero (Elt F) cc0_stg4_0 hz2 _ _) _ _ (pass_none c 5 7 (by decide) (by decide) (by decide) (by decide) _)) $$ [H Hw Hu]
  · isplitr; · iexact HK
    isplitl [H]; · iexact H
    isplitl [Hw] <;> iassumption
  iintro ⟨H, Hw, Hu⟩
  iapply (relay_ok I κ c 6 7 8 rfl (by decide) _ rfl _ ![atSlot I 8 c, atSlot I 7 c] rfl (upd0 _ _ _) rfl _ _ (pass_none c 6 8 (by decide) (by decide) (by decide) (by decide) _)) $$ [H]
  · isplitr; · iexact HK
    iexact H
  iintro H
  iapply (relay_ok I κ c 7 8 9 rfl (by decide) _ rfl _ ![atSlot I 8 c, atSlot I 9 c] rfl (upd1 _ _ _) rfl _ _ (pass_none c 7 9 (by decide) (by decide) (by decide) (by decide) _)) $$ [H]
  · isplitr; · iexact HK
    iexact H
  iintro H
  iapply (relay_ok I κ c 8 9 10 rfl (by decide) _ rfl _ ![atSlot I 10 c, atSlot I 9 c] rfl (upd0 _ _ _) rfl _ _ (pass_none c 8 10 (by decide) (by decide) (by decide) (by decide) _)) $$ [H]
  · isplitr; · iexact HK
    iexact H
  iintro H
  iapply (relay_ok I κ c 9 10 11 rfl (by decide) _ rfl _ ![atSlot I 10 c, atSlot I 11 c] rfl (upd1 _ _ _) rfl _ _ (pass_none c 9 11 (by decide) (by decide) (by decide) (by decide) _)) $$ [H]
  · isplitr; · iexact HK
    iexact H
  iintro H
  iapply Hk
  isplitl [H]; · iexact H
  isplitl [Hw] <;> iassumption

/-- The last two sums, and the last layer's products. -/
theorem last_ok (c : Dev nD) (G : sProp 𝕄) {α : Type} {kk : PUnit → P (F := F) α} {Q : α → sProp 𝕄} :
    iprop(know I κ ∗ state c 10 11 12 ![atSlot I 10 c, atSlot I 11 c] G ∗ pt c cc0_stg5_0 (I.win 2 c) ∗ pt c cc0_stg6_0 (I.wout 2 c))
      ⊢ iprop(((accPts c ![part I 0 2 c, part I 1 2 c] ∗ over c 12 ∗ debt c (owed 12 0 c) ∗ G ∗ pt c cc0_stg5_0 (I.win 2 c) ∗ pt c cc0_stg6_0 (I.wout 2 c))
            -∗ run c (kk ⟨⟩) Q)
        -∗ run c (do
            await 10; add 10; next (Memref.whole cc0_stg5_0) (Memref.whole cc0_stg6_0) 0
            await 11; add 11; next (Memref.whole cc0_stg5_0) (Memref.whole cc0_stg6_0) 1 >>= kk) Q) := by
  unfold state know
  iintro ⟨⟨#HI, #Hlev⟩, ⟨HA, Ho, HO, -, Hf, Hf', HG⟩, Hw, Hu⟩ Hk
  iapply (layer_ok I κ c 10 12 (by decide) (by decide) 1 _ ![part I 0 2 c, atSlot I 11 c] rfl rfl (upd0 _ _ _) (Memref.whole cc0_stg5_0) (Memref.whole cc0_stg6_0)
      (I.win 2 c) (I.wout 2 c) (Memref.readAt_unit_zero (Elt F) cc0_stg5_0 hz2 _ _) (Memref.readAt_unit_zero (Elt F) cc0_stg6_0 hz2 _ _))
  isplitl [Hf HA Ho HO Hw Hu]
  · isplitr; · iexact HI
    isplitr; · iexact Hlev
    isplitl [Hf]; · iexact Hf
    isplitl [HA]; · iexact HA
    isplitl [Ho]; · iexact Ho
    isplitl [HO]; · iexact HO
    isplitl [Hw] <;> iassumption
  iintro ⟨HA, Ho, -, HO, Hw, Hu⟩
  iapply (layer_ok I κ c 11 12 (by decide) (by decide) 1 _ ![part I 0 2 c, part I 1 2 c] rfl rfl (upd1 _ _ _) (Memref.whole cc0_stg5_0) (Memref.whole cc0_stg6_0)
      (I.win 2 c) (I.wout 2 c) (Memref.readAt_unit_zero (Elt F) cc0_stg5_0 hz2 _ _) (Memref.readAt_unit_zero (Elt F) cc0_stg6_0 hz2 _ _))
  isplitl [Hf' HA Ho HO Hw Hu]
  · isplitr; · iexact HI
    isplitr; · iexact Hlev
    isplitl [Hf']; · iexact Hf'
    isplitl [HA]; · iexact HA
    isplitl [Ho]; · iexact Ho
    isplitl [HO]; · iexact HO
    isplitl [Hw] <;> iassumption
  iintro ⟨HA, Ho, -, HO, Hw, Hu⟩
  iapply Hk
  isplitl [HA]; · iexact HA
  isplitl [Ho]; · iexact Ho
  isplitl [HO]; · iexact HO
  isplitl [HG]; · iexact HG
  isplitl [Hw] <;> iassumption

end Cert.KernelIdeal.Steps
-- ==== Proof.KernelIdeal.Body.lean ====
/-
# The body's result

The body, from the protocol's entry and the staged blocks: it leaves the device's rows of the sum in its result block.
-/
module

public import proofs.«01_k».proof.Proof.KernelIdeal.Walk

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

variable (κ : GSem nD τ sig → ℕ)

/-- The partners' landing slabs from `n` on. -/
def frees (c : Dev nD) (n : ℕ) : sProp 𝕄 := bigSep (fromO n) fun o => free (po o c) o

theorem frees_succ (c : Dev nD) (o : Fin 7) : (frees c o.val : sProp 𝕄) = iprop(free (po o c) o ∗ frees c (o.val + 1)) := by
  unfold frees
  rw [fromO_succ]
  exact bigSep_insert (not_mem_fromO o)

/-- The slabs below `n` are sent. -/
def sent (c : Dev nD) (A : Fin 2 → Half F) (n : ℕ) : sProp 𝕄 := iprop(accPts c A ∗ slabs c n ∗ aloft c n ∗ frees c n ∗ debt c (owed 12 n c))
/-- The slabs below `n` are awaited. -/
def awaited (c : Dev nD) (n : ℕ) : sProp 𝕄 := iprop(flying c n ∗ gone I c n ∗ debt c (owed 12 7 c))

theorem scatter_step (c : Dev nD) (o : Fin 7) (A : Fin 2 → Half F) (hA : accOf A = accFin I c) {α : Type} {kk : PUnit → P (F := F) α} {Q : α → sProp 𝕄} :
    iprop(know I κ ∗ sent c A o.val) ⊢ iprop((sent c A (o.val + 1) -∗ run c (kk ⟨⟩) Q) -∗ run c (scatter c o (po o c) >>= kk) Q) := by
  unfold sent know
  rw [frees_succ]
  iintro ⟨⟨#HI, #Hlev⟩, HA, Hs, Ha, ⟨Hf, Hfs⟩, HO⟩ Hk
  rw [run_bind]
  iapply (scatter_ok I κ c o _ rfl A hA)
  isplitl [HA Hs Ha Hf HO]
  · isplitr; · iexact HI
    isplitl [HA]; · iexact HA
    isplitl [Hs]; · iexact Hs
    isplitl [Ha]; · iexact Ha
    isplitl [Hf] <;> iassumption
  iintro ⟨HA, Hs, Ha, HO⟩
  iapply Hk
  isplitl [HA]; · iexact HA
  isplitl [Hs]; · iexact Hs
  isplitl [Ha]; · iexact Ha
  isplitl [Hfs] <;> iassumption

theorem gather_step (c : Dev nD) (o : Fin 7) {α : Type} {kk : PUnit → P (F := F) α} {Q : α → sProp 𝕄} :
    iprop(know I κ ∗ awaited I c o.val) ⊢ iprop((awaited I c (o.val + 1) -∗ run c (kk ⟨⟩) Q) -∗ run c (gather o >>= kk) Q) := by
  unfold awaited know
  iintro ⟨⟨#HI, #Hlev⟩, Hf, Hg, HO⟩ Hk
  rw [run_bind]
  iapply (gather_ok I κ c o)
  isplitl [Hf Hg HO]
  · isplitr; · iexact HI
    isplitr; · iexact Hlev
    isplitl [Hf]; · iexact Hf
    isplitl [Hg] <;> iassumption
  iexact Hk

theorem over_none (c : Dev nD) : (over c 0 : sProp 𝕄) = iprop(emp) := by
  unfold over
  rw [show (Finset.univ.filter fun k : Fin 12 => k.val < 0) = ∅ from by decide]
  rfl
theorem aloft_none (c : Dev nD) : (aloft c 0 : sProp 𝕄) = iprop(emp) := by
  unfold aloft
  rw [show (Finset.univ.filter fun o : Fin 7 => o.val < 0) = ∅ from by decide]
  rfl
theorem gone_none (c : Dev nD) : (gone I c 0 : sProp 𝕄) = iprop(emp) := by
  unfold gone
  rw [show (Finset.univ.filter fun o : Fin 7 => o.val < 0) = ∅ from by decide]
  rfl

theorem over_all (c : Dev nD) : (over c 12 : sProp 𝕄) = bigSep Finset.univ (slotDone c) := by
  unfold over
  rw [show (Finset.univ.filter fun k : Fin 12 => k.val < 12) = Finset.univ from by decide]
theorem gone_all (c : Dev nD) : (gone I c 7 : sProp 𝕄) = bigSep Finset.univ (slabDone I c) := by
  unfold gone
  rw [show (Finset.univ.filter fun o : Fin 7 => o.val < 7) = Finset.univ from by decide]
theorem slabs_all (c : Dev nD) : (slabs c 0 : sProp 𝕄) = bigSep Finset.univ (slabIdle c) := by
  unfold slabs
  rw [show fromO 0 = Finset.univ from by decide]

theorem gather_start (c : Dev nD) : iprop(aloft c 7 ∗ debt c (owed 12 7 c)) ⊢ (awaited I c 0 : sProp 𝕄) := by
  unfold awaited
  rw [aloft_all, gone_none]
  iintro ⟨H, HO⟩
  isplitl [H]; · iexact H
  isplitr; · iempintro
  iexact HO

theorem frees_all (c : Dev nD) : (frees c 0 : sProp 𝕄)
    = iprop(free (po 0 c) 0 ∗ free (po 1 c) 1 ∗ free (po 2 c) 2 ∗ free (po 3 c) 3 ∗ free (po 4 c) 4 ∗ free (po 5 c) 5 ∗ free (po 6 c) 6) := seven _

/-- The last exchange. -/
theorem scatters_ok (c : Dev nD) (A : Fin 2 → Half F) (hA : accOf A = accFin I c) {α : Type} {kk : PUnit → P (F := F) α} {Q : α → sProp 𝕄} :
    iprop(know I κ ∗ sent c A 0)
      ⊢ iprop(((accPts c A ∗ gone I c 7 ∗ debt c (owed 12 7 c)) -∗ run c (kk ⟨⟩) Q)
        -∗ run c (do
            scatter c 0 (po 0 c); scatter c 1 (po 1 c); scatter c 2 (po 2 c); scatter c 3 (po 3 c)
            scatter c 4 (po 4 c); scatter c 5 (po 5 c); scatter c 6 (po 6 c)
            gather 0; gather 1; gather 2; gather 3; gather 4; gather 5; gather 6 >>= kk) Q) := by
  iintro ⟨#HK, H⟩ Hk
  iapply (scatter_step I κ c 0 A hA) $$ [H]
  · isplitr; · iexact HK
    iexact H
  iintro H
  iapply (scatter_step I κ c 1 A hA) $$ [H]
  · isplitr; · iexact HK
    iexact H
  iintro H
  iapply (scatter_step I κ c 2 A hA) $$ [H]
  · isplitr; · iexact HK
    iexact H
  iintro H
  iapply (scatter_step I κ c 3 A hA) $$ [H]
  · isplitr; · iexact HK
    iexact H
  iintro H
  iapply (scatter_step I κ c 4 A hA) $$ [H]
  · isplitr; · iexact HK
    iexact H
  iintro H
  iapply (scatter_step I κ c 5 A hA) $$ [H]
  · isplitr; · iexact HK
    iexact H
  iintro H
  iapply (scatter_step I κ c 6 A hA) $$ [H]
  · isplitr; · iexact HK
    iexact H
  iintro H
  unfold sent
  icases H with ⟨HA, -, Hf, -, HO⟩
  ihave H := (gather_start I c) $$ [Hf HO]
  · isplitl [Hf]; · iexact Hf
    iexact HO
  iapply (gather_step I κ c 0) $$ [H]
  · isplitr; · iexact HK
    iexact H
  iintro H
  iapply (gather_step I κ c 1) $$ [H]
  · isplitr; · iexact HK
    iexact H
  iintro H
  iapply (gather_step I κ c 2) $$ [H]
  · isplitr; · iexact HK
    iexact H
  iintro H
  iapply (gather_step I κ c 3) $$ [H]
  · isplitr; · iexact HK
    iexact H
  iintro H
  iapply (gather_step I κ c 4) $$ [H]
  · isplitr; · iexact HK
    iexact H
  iintro H
  iapply (gather_step I κ c 5) $$ [H]
  · isplitr; · iexact HK
    iexact H
  iintro H
  iapply (gather_step I κ c 6) $$ [H]
  · isplitr; · iexact HK
    iexact H
  iintro H
  unfold awaited
  icases H with ⟨-, Hg, HO⟩
  iapply Hk
  isplitl [HA]; · iexact HA
  isplitl [Hg]; · iexact Hg
  iexact HO

/-- What a device holds of memory when the body starts. -/
def blocks (c : Dev nD) : sProp 𝕄 :=
  iprop(inputs I c ∗ (pt c cc0_stg3_0 (I.win 1 c) ∗ pt c cc0_stg4_0 (I.wout 1 c)) ∗ pt c cc0_stg5_0 (I.win 2 c) ∗ pt c cc0_stg6_0 (I.wout 2 c))
/-- What it holds of the protocol. -/
def entry (c : Dev nD) : sProp 𝕄 :=
  iprop((bigSep Finset.univ fun i : Fin 3 => dutyTok ER (barCell (px (mm i) c)) 0 i) ∗ atPos ER (barCell c) 0 ∅ 0
    ∗ cred (tallyAt (barCell c) () 3) ∗ bigSep Finset.univ (open' c) ∗ bigSep Finset.univ (free c)
    ∗ bigSep Finset.univ (slotIdle c) ∗ bigSep Finset.univ (slabIdle c))
/-- What it holds of it at the end. -/
def exit' (c : Dev nD) : sProp 𝕄 := iprop(semVal (barCell c) 0 ∗ bigSep Finset.univ (slotDone c) ∗ bigSep Finset.univ (slabDone I c))

theorem body_ok (c : Dev nD) (A₀ : Fin 2 → Half F) (f0 : cc0_stg7_0.ty.Contents (Elt F)) (Kt : PUnit → sProp 𝕄) :
    iprop((know I κ ∗ entry c ∗ blocks I c ∗ accPts c A₀ ∗ pt c cc0_stg7_0 f0 ∗ debt c (O₀ c))
        ∗ ((exit' I c ∗ blocks I c ∗ accPts c ![part I 0 2 c, part I 1 2 c] ∗ pt c cc0_stg7_0 (out I c) ∗ debt c 0) -∗ Kt ⟨⟩))
      ⊢ run c (body (F := F)) Kt := by
  have hA : accOf ![part I 0 2 c, part I 1 2 c] = accFin I c := congrArg accOf (funext fun h => by fin_cases h <;> rfl)
  unfold body entry blocks
  simp only [Prog.lift, Prog.bind_op, Prog.bind_ret, wp_deviceId, dev4_eq, dev5_eq, dev6_eq, dev7_eq, dev8_eq, dev9_eq, dev10_eq, dev11_eq, dev12_eq,
    dev13_eq, dev14_eq, dev15_eq, dev16_eq, dev17_eq, dev18_eq, dev19_eq, dev20_eq, dev21_eq, dev22_eq]
  iintro ⟨⟨#HK, ⟨Htk, Hat, Hcr, Hop, Hfr, Hsi, Hli⟩, ⟨Hin, ⟨Hw3, Hw4⟩, Hw5, Hw6⟩, HA, Hout, HO⟩, Hk⟩
  rw [wp_bind]
  iapply (enter_ok I κ c)
  isplitl [Htk Hat Hcr Hop Hfr HO]
  · unfold know
    icases HK with ⟨#HI, #Hlev⟩
    isplitr; · iexact HI
    isplitr; · iexact Hlev
    isplitl [Htk]; · iexact Htk
    isplitl [Hat]; · iexact Hat
    isplitl [Hcr]; · iexact Hcr
    isplitl [HO]; · iexact HO
    isplitl [Hop] <;> iassumption
  rw [handed]
  iintro ⟨Hz, HO, Hop, Hn0, Hn1, Hn2, Hn3, Hn4, Hn5, Hn6⟩
  ihave Hs := (Entails.of_eq (slots_all (F := F) c).symm) $$ [Hop Hsi]
  · isplitl [Hop] <;> iassumption
  iapply (begin_ok I κ c A₀ iprop((free (px 1 c) 1 ∗ free (px 1 c) 5) ∗ (free (px 1 c) 4 ∗ free (px 3 c) 6))) $$ [HA Hin Hs HO Hn1 Hn4 Hn5 Hn6]
  · isplitr; · iexact HK
    isplitl [HA]; · iexact HA
    isplitl [Hin]; · iexact Hin
    isplitl [Hs]; · iexact Hs
    isplitr; · rw [over_none]; iempintro
    isplitl [HO]; · iexact HO
    isplitl [Hn1 Hn5]
    · isplitl [Hn1] <;> iassumption
    isplitl [Hn4] <;> iassumption
  iintro ⟨H, Hin⟩
  iapply (exchanges_ok I κ c) $$ [H Hw3 Hw4]
  · isplitr; · iexact HK
    isplitl [H]; · iexact H
    isplitl [Hw3] <;> iassumption
  iintro ⟨H, Hw3, Hw4⟩
  iapply (last_ok I κ c) $$ [H Hw5 Hw6]
  · isplitr; · iexact HK
    isplitl [H]; · iexact H
    isplitl [Hw5] <;> iassumption
  iintro ⟨HA, Hov, HO, ⟨Hf1, Hf4⟩, Hw5, Hw6⟩
  ihave Hf := (Entails.of_eq (fwd_four (F := F) c)) $$ Hf4
  icases Hf with ⟨Hf4, Hf6, Hf5⟩
  ihave Hfs := (Entails.of_eq (frees_all (F := F) c).symm) $$ [Hn0 Hf1 Hn2 Hn3 Hf4 Hf5 Hf6]
  · isplitl [Hn0]; · iexact Hn0
    isplitl [Hf1]; · iexact Hf1
    isplitl [Hn2]; · iexact Hn2
    isplitl [Hn3]; · iexact Hn3
    isplitl [Hf4]; · iexact Hf4
    isplitl [Hf5]; · iexact Hf5
    iexact Hf6
  iapply (scatters_ok I κ c _ hA) $$ [HA Hli Hfs HO]
  · isplitr; · iexact HK
    unfold sent
    isplitl [HA]; · iexact HA
    isplitl [Hli]; · rw [slabs_all]; iexact Hli
    isplitr; · rw [aloft_none]; iempintro
    isplitl [Hfs] <;> iassumption
  iintro ⟨HA, Hg, HO⟩
  iapply (total_ok I c _ hA f0)
  isplitl [HA Hg Hout]
  · isplitl [HA]; · iexact HA
    isplitl [Hg] <;> iassumption
  iintro ⟨HA, Hg, Hout⟩
  iapply Hk
  rw [owed_none]
  isplitl [Hz Hov Hg]
  · unfold exit'
    isplitl [Hz]; · iexact Hz
    rw [← over_all, ← gone_all]
    isplitl [Hov] <;> iassumption
  isplitl [Hin Hw3 Hw4 Hw5 Hw6]
  · isplitl [Hin]; · iexact Hin
    isplitl [Hw3 Hw4]; · isplitl [Hw3] <;> iassumption
    isplitl [Hw5] <;> iassumption
  isplitl [HA]; · iexact HA
  isplitl [Hout] <;> iassumption

end Cert.KernelIdeal.Steps
-- ==== Proof.KernelIdeal.Opening.lean ====
/-
# Entering the kernel and leaving it

What a device brings from the launch, what it holds once its own semaphores' cells are open, and how that is the body's
entry beside the scratch buffers; and what the body leaves, put back.
-/
module

public import proofs.«01_k».proof.Proof.KernelIdeal.Scratch
public import proofs.«01_k».proof.Proof.KernelIdeal.Body

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

abbrev jobCell (c : Dev nD) (j : Job) : GSem nD τ sig := ((c : Thread nD τ), osem j)

/-- The device that pays a semaphore's duty on device `c`, and on whose semaphore `c` pays. -/
def payer : Job → Dev nD ≃ Dev nD
  | .inl (.inl k) => Equiv.refl _
  | .inl (.inr k) => pxPerm (mm (mk k))
  | .inr (.inl o) => Equiv.refl _
  | .inr (.inr o) => pxPerm (om o)

/-- The tokens of the duties `c` pays. -/
def tokens (c : Dev nD) : sProp 𝕄 :=
  iprop((bigSep Finset.univ fun i : Fin 3 => dutyTok ER (barCell (px (mm i) c)) 0 i) ∗ bigSep Finset.univ fun j : Job => dutyTok ER (jobCell (payer j c) j) 0 0)
/-- What is dealt to `c` at the launch: its barrier cell's position, its semaphores' rights to open, its tokens. -/
def linear (c : Dev nD) : sProp 𝕄 :=
  iprop(atPos ER (barCell c) 0 ∅ 0 ∗ (bigSep Finset.univ fun j : Job => openTok ER (jobCell c j)) ∗ tokens c)
/-- The credit `c` waits with: the partners' and senders' units. -/
def creds (c : Dev nD) : sProp 𝕄 :=
  iprop(cred (tallyAt (barCell c) () 3) ∗ (bigSep Finset.univ fun k : Fin 12 => cred (tallyAt (recvCell c k) () N))
    ∗ bigSep Finset.univ fun o : Fin 7 => cred (tallyAt (a2aCell c o) () N'))

def before' (c : Dev nD) : sProp 𝕄 := iprop(∃ κ, recs I κ ∗ linear c ∗ creds c)
/-- One of the semaphores' cells, open. -/
def opened (c : Dev nD) (j : Job) : sProp 𝕄 := iprop(atPos ER (jobCell c j) 0 ∅ 0 ∗ reached ER (jobCell c j) 0)
def inside (c : Dev nD) : sProp 𝕄 :=
  iprop(∃ κ, know I κ ∗ atPos ER (barCell c) 0 ∅ 0 ∗ bigSep Finset.univ (opened c) ∗ tokens c ∗ creds c)

theorem open_one (κ : GSem nD τ sig → ℕ) (c : Dev nD) (j : Job) :
    iprop(recs I κ ∗ (openTok ER (jobCell c j) ∗ semVal (jobCell c j) 0)) ⊢ (|={Set.univ}=> opened c j : sProp 𝕄) := by
  unfold opened
  iintro ⟨#HI, Ho, Hv⟩
  iapply (Rounds.cell_open ER (sched I) (g := jobCell c j) (Set.mem_univ (κ (jobCell c j))))
  isplitr; · iapply (inv_job I κ c j); iexact HI
  isplitl [Ho] <;> iassumption

theorem open_all (κ : GSem nD τ sig → ℕ) (c : Dev nD) :
    iprop(recs I κ ∗ bigSep Finset.univ fun j : Job => iprop(openTok ER (jobCell c j) ∗ semVal (jobCell c j) 0)) ⊢ (|={Set.univ}=> bigSep Finset.univ (opened c) : sProp 𝕄) :=
  (bigSep_with_persistent (R := recs I κ) fun j _ => open_one I κ c j).trans (bigSep_fupd _ _)

theorem opens_ok (c : Dev nD) : iprop(before' I c ∗ Pipeline.ownSems0 osem c ∗ levAts L lv) ⊢ (|={Set.univ}=> inside I c : sProp 𝕄) := by
  unfold before' inside linear know Pipeline.ownSems0
  iintro ⟨⟨%κ, #HI, ⟨Ha, Ho, Ht⟩, Hc⟩, Hs, #Hlev⟩
  imod (open_all I κ c) $$ [Ho Hs] with Hop
  · isplitr; · iexact HI
    iapply (Entails.of_eq (bigSep_sep' (M := 𝕄) Finset.univ (fun j : Job => openTok ER (jobCell c j)) fun j => semVal (jobCell c j) 0).symm)
    isplitl [Ho]; · iexact Ho
    iexact Hs
  imodintro
  iexists κ
  isplitr; · isplitr <;> iassumption
  isplitl [Ha]; · iexact Ha
  isplitl [Hop]; · iexact Hop
  isplitl [Ht] <;> iassumption

/-! ## The entry -/

theorem slot_entry (c : Dev nD) (k : Fin 12) :
    iprop(opened c (.inl (.inl k)) ∗ opened c (.inl (.inr k)) ∗ dutyTok ER (jobCell c (.inl (.inl k))) 0 0 ∗ dutyTok ER (jobCell (pk k c) (.inl (.inr k))) 0 0
        ∗ cred (tallyAt (recvCell c k) () N) ∗ anyAt sendM (slotR k) c ∗ anyAt commM (slotR k) c)
      ⊢ (iprop(open' c k ∗ slotIdle c k) : sProp 𝕄) := by
  unfold opened open' slotIdle
  iintro ⟨⟨Has, Hrs⟩, ⟨Har, Hrr⟩, Hts, Htr, Hc, Hs, Hm⟩
  isplitl [Hrr Hm]
  · isplitl [Hm]; · iexact Hm
    iexact Hrr
  isplitl [Has]; · iexact Has
  isplitl [Hts]; · iexact Hts
  isplitl [Hrs]; · iexact Hrs
  isplitl [Hs]; · iexact Hs
  isplitl [Htr]; · iexact Htr
  isplitl [Har]; · iexact Har
  iexact Hc

theorem slab_entry (c : Dev nD) (o : Fin 7) :
    iprop(opened c (.inr (.inl o)) ∗ opened c (.inr (.inr o)) ∗ dutyTok ER (jobCell c (.inr (.inl o))) 0 0 ∗ dutyTok ER (jobCell (po o c) (.inr (.inr o))) 0 0
        ∗ cred (tallyAt (a2aCell c o) () N') ∗ anyAt stageM (slabR o) c ∗ anyAt a2aM (slabR o) c)
      ⊢ (iprop(free c o ∗ slabIdle c o) : sProp 𝕄) := by
  unfold opened free slabIdle
  iintro ⟨⟨Has, Hrs⟩, ⟨Har, Hrr⟩, Hts, Htr, Hc, Hs, Hm⟩
  isplitl [Hrr Hm]
  · isplitl [Hm]; · iexact Hm
    iexact Hrr
  isplitl [Has]; · iexact Has
  isplitl [Hts]; · iexact Hts
  isplitl [Hrs]; · iexact Hrs
  isplitl [Hs]; · iexact Hs
  isplitl [Htr]; · iexact Htr
  isplitl [Har]; · iexact Har
  iexact Hc

/-- Seven families at one index. -/
theorem zip7 {ι : Type} [Fintype ι] (A B C D E G H : ι → sProp 𝕄) :
    iprop(bigSep Finset.univ A ∗ bigSep Finset.univ B ∗ bigSep Finset.univ C ∗ bigSep Finset.univ D ∗ bigSep Finset.univ E ∗ bigSep Finset.univ G ∗ bigSep Finset.univ H)
      = bigSep Finset.univ fun i => iprop(A i ∗ B i ∗ C i ∗ D i ∗ E i ∗ G i ∗ H i) := by
  simp only [bigSep_sep']

/-- A family over the semaphores, by what they are for. -/
theorem by_kind (Φ : Job → sProp 𝕄) :
    bigSep Finset.univ Φ = iprop(((bigSep Finset.univ fun k => Φ (.inl (.inl k))) ∗ bigSep Finset.univ fun k => Φ (.inl (.inr k)))
      ∗ (bigSep Finset.univ fun o => Φ (.inr (.inl o))) ∗ bigSep Finset.univ fun o => Φ (.inr (.inr o))) := by
  rw [bigSep_univ_sum, bigSep_univ_sum, bigSep_univ_sum]
  rfl

theorem slots_entry (c : Dev nD) :
    iprop((bigSep Finset.univ fun k => opened c (.inl (.inl k))) ∗ (bigSep Finset.univ fun k => opened c (.inl (.inr k)))
        ∗ (bigSep Finset.univ fun k => dutyTok ER (jobCell c (.inl (.inl k))) 0 0) ∗ (bigSep Finset.univ fun k => dutyTok ER (jobCell (pk k c) (.inl (.inr k))) 0 0)
        ∗ (bigSep Finset.univ fun k => cred (tallyAt (recvCell c k) () N)) ∗ (bigSep Finset.univ fun k => anyAt sendM (slotR k) c) ∗ bigSep Finset.univ fun k => anyAt commM (slotR k) c)
      ⊢ (iprop(bigSep Finset.univ (open' c) ∗ bigSep Finset.univ (slotIdle c)) : sProp 𝕄) := by
  rw [zip7]
  exact (bigSep_mono fun k _ => slot_entry c k).trans (Entails.of_eq (bigSep_sep' _ _ _))

theorem slabs_entry (c : Dev nD) :
    iprop((bigSep Finset.univ fun o => opened c (.inr (.inl o))) ∗ (bigSep Finset.univ fun o => opened c (.inr (.inr o)))
        ∗ (bigSep Finset.univ fun o => dutyTok ER (jobCell c (.inr (.inl o))) 0 0) ∗ (bigSep Finset.univ fun o => dutyTok ER (jobCell (po o c) (.inr (.inr o))) 0 0)
        ∗ (bigSep Finset.univ fun o => cred (tallyAt (a2aCell c o) () N')) ∗ (bigSep Finset.univ fun o => anyAt stageM (slabR o) c) ∗ bigSep Finset.univ fun o => anyAt a2aM (slabR o) c)
      ⊢ (iprop(bigSep Finset.univ (free c) ∗ bigSep Finset.univ (slabIdle c)) : sProp 𝕄) := by
  rw [zip7]
  exact (bigSep_mono fun k _ => slab_entry c k).trans (Entails.of_eq (bigSep_sep' _ _ _))

/-- The scratch buffers and the open cells are the body's entry. -/
theorem entry_ok (c : Dev nD) :
    iprop(Pipeline.scopedRest spec0 c ∗ inside I c) ⊢ (iprop((∃ κ, know I κ) ∗ entry c ∗ ∃ A, accPts c A) : sProp 𝕄) := by
  rw [scopedRest0_eq]
  unfold inside tokens creds entry
  rw [by_kind, by_kind]
  iintro ⟨⟨Hacc, Hsend, Hcomm, Hstage, Ha2a⟩, ⟨%κ, #HK, Hb, ⟨⟨Hos, Hor⟩, Hog, Hoa⟩, ⟨Htb, ⟨Hts, Htr⟩, Htg, Hta⟩, ⟨Hcb, Hcr, Hca⟩⟩⟩
  ihave Hacc := (acc_split c) $$ Hacc
  ihave Hsend := (send_split c) $$ Hsend
  ihave Hcomm := (comm_split c) $$ Hcomm
  ihave Hstage := (stage_split c) $$ Hstage
  ihave Ha2a := (a2a_split c) $$ Ha2a
  ihave Hslots := (slots_entry c) $$ [Hos Hor Hts Htr Hcr Hsend Hcomm]
  · isplitl [Hos]; · iexact Hos
    isplitl [Hor]; · iexact Hor
    isplitl [Hts]; · iexact Hts
    isplitl [Htr]; · iexact Htr
    isplitl [Hcr]; · iexact Hcr
    isplitl [Hsend] <;> iassumption
  ihave Hslabs := (slabs_entry c) $$ [Hog Hoa Htg Hta Hca Hstage Ha2a]
  · isplitl [Hog]; · iexact Hog
    isplitl [Hoa]; · iexact Hoa
    isplitl [Htg]; · iexact Htg
    isplitl [Hta]; · iexact Hta
    isplitl [Hca]; · iexact Hca
    isplitl [Hstage] <;> iassumption
  icases Hslots with ⟨Hop, Hsl⟩
  icases Hslabs with ⟨Hfr, Hsb⟩
  isplitr; · iexists κ; iexact HK
  isplitr [Hacc]
  · isplitl [Htb]; · iexact Htb
    isplitl [Hb]; · iexact Hb
    isplitl [Hcb]; · iexact Hcb
    isplitl [Hop]; · iexact Hop
    isplitl [Hfr]; · iexact Hfr
    isplitl [Hsl] <;> iassumption
  iexact Hacc

/-! ## The exit -/

theorem slots_exit (c : Dev nD) : (bigSep Finset.univ (slotDone c) : sProp 𝕄)
    ⊢ iprop((bigSep Finset.univ fun k => anyAt sendM (slotR k) c) ∗ (bigSep Finset.univ fun k => anyAt commM (slotR k) c)
      ∗ (bigSep Finset.univ fun k => semVal (sendCell c k) 0) ∗ bigSep Finset.univ fun k => semVal (recvCell c k) 0) := by
  unfold slotDone
  rw [bigSep_sep', bigSep_sep', bigSep_sep']

theorem slab_exit (c : Dev nD) (o : Fin 7) : (slabDone I c o : sProp 𝕄)
    ⊢ iprop(anyAt stageM (slabR o) c ∗ anyAt a2aM (slabR o) c ∗ semVal (stageCell c o) 0 ∗ semVal (a2aCell c o) 0) := by
  unfold slabDone
  iintro ⟨H1, H2, H3, H4⟩
  isplitl [H1]; · iexact H1
  isplitl [H2]; · iapply (holdsAt_any a2aM (slabR o) c (slab I o (po o c))); iexact H2
  isplitl [H3] <;> iassumption

theorem slabs_exit (c : Dev nD) : (bigSep Finset.univ (slabDone I c) : sProp 𝕄)
    ⊢ iprop((bigSep Finset.univ fun o => anyAt stageM (slabR o) c) ∗ (bigSep Finset.univ fun o => anyAt a2aM (slabR o) c)
      ∗ (bigSep Finset.univ fun o => semVal (stageCell c o) 0) ∗ bigSep Finset.univ fun o => semVal (a2aCell c o) 0) := by
  refine (bigSep_mono fun o _ => slab_exit I c o).trans ?_
  rw [bigSep_sep', bigSep_sep', bigSep_sep']
  exact BI.Entails.refl _

/-- What the body leaves is the scratch buffers, the counters back at zero, and the barrier's. -/
theorem exit_ok (c : Dev nD) (A : Fin 2 → Half F) :
    iprop(exit' I c ∗ accPts c A) ⊢ (iprop(Pipeline.scopedRest spec0 c ∗ Pipeline.ownSems0 osem c ∗ semVal (barCell c) 0) : sProp 𝕄) := by
  rw [scopedRest0_eq]
  unfold exit' accPts Pipeline.ownSems0
  rw [by_kind]
  iintro ⟨⟨Hb, Hsl, Hsb⟩, Hacc⟩
  ihave Hsl := (slots_exit c) $$ Hsl
  ihave Hsb := (slabs_exit I c) $$ Hsb
  icases Hsl with ⟨H1, H2, Hs, Hr⟩
  icases Hsb with ⟨H3, H4, Hg, Ha⟩
  isplitl [Hacc H1 H2 H3 H4]
  · isplitl [Hacc]; · iexists (accOf A); iexact Hacc
    isplitl [H1]; · iapply (send_join c); iexact H1
    isplitl [H2]; · iapply (comm_join c); iexact H2
    isplitl [H3]; · iapply (stage_join c); iexact H3
    iapply (a2a_join c); iexact H4
  isplitr [Hb]
  · isplitl [Hs Hr]
    · isplitl [Hs]; · iexact Hs
      iexact Hr
    isplitl [Hg]; · iexact Hg
    iexact Ha
  iexact Hb

end Cert.KernelIdeal.Steps
-- ==== Proof.KernelIdeal.Dealing.lean ====
/-
# What the launch deals

Every token to the device that pays its duty, and to every device the credit of what the others owe its cells.
-/
module

public import proofs.«01_k».proof.Proof.KernelIdeal.Opening

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Ins F)

theorem osem_ne_bar : ∀ j : Job, osem j ≠ .reg readySem := by
  intro j h
  rcases j with (k | k) | (o | o) <;> exact absurd h (by simp only [osem, reduceCtorEq, not_false_eq_true])

theorem disjoint_cells : Disjoint (barCells : Finset (GSem nD τ sig)) jobCells := by
  rw [Finset.disjoint_left]
  rintro g h₁ h₂
  obtain ⟨c, -, rfl⟩ := Finset.mem_map.mp h₁
  obtain ⟨cj, -, h⟩ := Finset.mem_map.mp h₂
  exact osem_ne_bar cj.2 (congrArg Prod.snd h)

/-! ## The tokens -/

/-- A duty of one of a device's cells: one of the partners' at the barrier, or a transfer's. -/
def duty (c : Dev nD) : Fin 3 ⊕ Job → GSem nD τ sig × ℕ × Fin 3
  | .inl i => (barCell c, 0, i)
  | .inr j => (jobCell c j, 0, 0)

theorem duty_inj : Function.Injective fun p : Dev nD × (Fin 3 ⊕ Job) => duty p.1 p.2 := by
  rintro ⟨c, i | j⟩ ⟨c', i' | j'⟩ h
  · have hc : c = c' := congrArg (fun t : GSem nD τ sig × ℕ × Fin 3 => t.1.1.1) h
    have hi : i = i' := congrArg (fun t : GSem nD τ sig × ℕ × Fin 3 => t.2.2) h
    rw [hc, hi]
  · exact absurd (congrArg (fun t : GSem nD τ sig × ℕ × Fin 3 => t.1.2) h).symm (osem_ne_bar j')
  · exact absurd (congrArg (fun t : GSem nD τ sig × ℕ × Fin 3 => t.1.2) h) (osem_ne_bar j)
  · have hc : c = c' := congrArg (fun t : GSem nD τ sig × ℕ × Fin 3 => t.1.1.1) h
    have hj : j = j' := osem_inj (congrArg (fun t : GSem nD τ sig × ℕ × Fin 3 => t.1.2) h)
    rw [hc, hj]

def toks : Finset (GSem nD τ sig × ℕ × Fin 3) := Finset.univ.map ⟨fun p : Dev nD × (Fin 3 ⊕ Job) => duty p.1 p.2, duty_inj⟩

/-- A family over the devices for each index, every index's dealt round by a permutation of its own. -/
theorem dealt {ι : Type} [Fintype ι] (π : ι → Dev nD ≃ Dev nD) (Φ : Dev nD → ι → sProp 𝕄) :
    (bigSep Finset.univ fun c => bigSep Finset.univ fun i => Φ c i) = bigSep Finset.univ fun c => bigSep Finset.univ fun i => Φ (π i c) i := by
  let e : Dev nD × ι ≃ Dev nD × ι :=
    ⟨fun p => (π p.2 p.1, p.2), fun p => ((π p.2).symm p.1, p.2), fun p => Prod.ext ((π p.2).symm_apply_apply p.1) rfl,
      fun p => Prod.ext ((π p.2).apply_symm_apply p.1) rfl⟩
  rw [← bigSep_univ_prod (fun p : Dev nD × ι => Φ p.1 p.2), bigSep_univ_equiv e, bigSep_univ_prod]
  rfl

theorem toks_dealt : (bigSep toks fun x => (dutyTok ER x.1 x.2.1 x.2.2 : sProp 𝕄)) = bigSep Finset.univ fun c : Dev nD => tokens c := by
  unfold toks tokens
  rw [bigSep_map, bigSep_univ_prod]
  rw [bigSep_congr (Ψ := fun c : Dev nD => iprop((bigSep Finset.univ fun i : Fin 3 => dutyTok ER (barCell c) 0 i)
      ∗ bigSep Finset.univ fun j : Job => (dutyTok ER (jobCell c j) 0 0 : sProp 𝕄))) fun c _ => bigSep_univ_sum _]
  rw [bigSep_sep', bigSep_sep', dealt (fun i => pxPerm (mm i)) (fun c i => (dutyTok ER (barCell c) 0 i : sProp 𝕄)),
    dealt payer (fun c j => (dutyTok ER (jobCell c j) 0 0 : sProp 𝕄))]
  rfl

/-! ## The credit -/

/-- What one owes a cell, out of what a tally gives. -/
theorem tally_at (g g' : GSem nD τ sig) (n : ℕ) : (tallyAt g () n : CellTallies nD τ sig Unit) g' () = if g' = g then n else 0 := by
  rw [tallyAt_apply]
  simp

theorem cell_dev {c d : Dev nD} {s t : SemLoc sig} (h : (((c : Thread nD τ), s) : GSem nD τ sig) = ((d : Thread nD τ), t)) : c = d :=
  congrArg (fun g : GSem nD τ sig => g.1.1) h

theorem sum_at {ι : Type} (s : Finset ι) (T : ι → CellTallies nD τ sig Unit) (g : GSem nD τ sig) : (∑ i ∈ s, T i) g () = ∑ i ∈ s, T i g () := by
  rw [Finset.sum_apply, Finsupp.finset_sum_apply]

/-- What `d` owes a cell. -/
theorem owes_at (d : Dev nD) (g : GSem nD τ sig) : O₀ d g () =
    (∑ k : Fin 12, if g = recvCell (pk k d) k then N else 0) + (∑ o : Fin 7, if g = a2aCell (po o d) o then N' else 0)
      + (if g = barCell (px (mm 2) d) then 1 else 0) + (if g = barCell (px (mm 1) d) then 1 else 0) + (if g = barCell (px (mm 0) d) then 1 else 0) := by
  unfold O₀ owed
  rw [Pi.add_apply, Finsupp.add_apply, Pi.add_apply, Finsupp.add_apply, Pi.add_apply, Finsupp.add_apply, Pi.add_apply, Finsupp.add_apply,
    sum_at, sum_at, tally_at, tally_at, tally_at, show fromS 0 = Finset.univ from by decide, show fromO 0 = Finset.univ from by decide]
  simp only [tally_at]

theorem bar_ne_recv (c d : Dev nD) (k : Fin 12) : barCell c ≠ recvCell d k := fun h => osem_ne_bar (.inl (.inr k)) (congrArg Prod.snd h).symm
theorem bar_ne_slab (c d : Dev nD) (o : Fin 7) : barCell c ≠ a2aCell d o := fun h => osem_ne_bar (.inr (.inr o)) (congrArg Prod.snd h).symm
theorem recv_ne_slab (c d : Dev nD) (k : Fin 12) (o : Fin 7) : recvCell c k ≠ a2aCell d o := fun h => by
  have h' := congrArg (fun g : GSem nD τ sig => kind g.2) h
  simp only [kind_recv, kind_slab, reduceCtorEq] at h'
theorem recv_inj {c d : Dev nD} {k j : Fin 12} (h : recvCell c k = recvCell d j) : c = d ∧ k = j := by
  have h' := congrArg (fun g : GSem nD τ sig => kind g.2) h
  simp only [kind_recv, Kind.recv.injEq] at h'
  exact ⟨cell_dev h, h'⟩
theorem slab_inj {c d : Dev nD} {o j : Fin 7} (h : a2aCell c o = a2aCell d j) : c = d ∧ o = j := by
  have h' := congrArg (fun g : GSem nD τ sig => kind g.2) h
  simp only [kind_slab, Kind.slab.injEq] at h'
  exact ⟨cell_dev h, h'⟩

theorem owes_recv (d c : Dev nD) (k : Fin 12) : O₀ d (recvCell c k) () = if d = pk k c then N else 0 := by
  rw [owes_at]
  have h1 : (∑ j : Fin 12, if recvCell c k = recvCell (pk j d) j then N else 0) = if d = pk k c then N else 0 := by
    rw [Finset.sum_eq_single k (fun j _ hj => if_neg fun h => hj (recv_inj h).2.symm) (fun h => absurd (Finset.mem_univ k) h)]
    by_cases hd : d = pk k c
    · rw [if_pos hd, if_pos (by rw [hd, pk_pk])]
    · rw [if_neg hd, if_neg fun h => hd (by rw [(recv_inj h).1, pk_pk])]
  rw [h1, Finset.sum_eq_zero fun o _ => if_neg (recv_ne_slab _ _ _ _), if_neg (bar_ne_recv _ _ _).symm, if_neg (bar_ne_recv _ _ _).symm, if_neg (bar_ne_recv _ _ _).symm]
  rfl

theorem owes_slab (d c : Dev nD) (o : Fin 7) : O₀ d (a2aCell c o) () = if d = po o c then N' else 0 := by
  rw [owes_at]
  have h1 : (∑ j : Fin 7, if a2aCell c o = a2aCell (po j d) j then N' else 0) = if d = po o c then N' else 0 := by
    rw [Finset.sum_eq_single o (fun j _ hj => if_neg fun h => hj (slab_inj h).2.symm) (fun h => absurd (Finset.mem_univ o) h)]
    by_cases hd : d = po o c
    · rw [if_pos hd, if_pos (by rw [hd, po_po])]
    · rw [if_neg hd, if_neg fun h => hd (by rw [(slab_inj h).1, po_po])]
  rw [h1, Finset.sum_eq_zero fun k _ => if_neg (recv_ne_slab _ _ _ _).symm, if_neg (bar_ne_slab _ _ _).symm, if_neg (bar_ne_slab _ _ _).symm, if_neg (bar_ne_slab _ _ _).symm,
    Nat.zero_add]
  rfl

theorem bar_eq (c d : Dev nD) (m : Fin 8) : (barCell c = barCell (px m d)) = (d = px m c) :=
  propext ⟨fun h => by rw [cell_dev h, px_px], fun h => by rw [h, px_px]⟩

theorem owes_bar (d c : Dev nD) : O₀ d (barCell c) () = (if d = px (mm 2) c then 1 else 0) + (if d = px (mm 1) c then 1 else 0) + (if d = px (mm 0) c then 1 else 0) := by
  rw [owes_at, Finset.sum_eq_zero fun k _ => if_neg (bar_ne_recv _ _ _), Finset.sum_eq_zero fun o _ => if_neg (bar_ne_slab _ _ _)]
  simp only [bar_eq, Nat.zero_add]

/-- The launch's credit at a cell is what all devices owe it. -/
theorem credit_at (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

theorem credit_bar (c : Dev nD) : ∑ d : Dev nD, O₀ d (barCell c) () = 3 := by
  simp only [owes_bar, Finset.sum_add_distrib, Finset.sum_ite_eq', Finset.mem_univ, if_true]
theorem credit_recv (c : Dev nD) (k : Fin 12) : ∑ d : Dev nD, O₀ d (recvCell c k) () = N := by
  simp only [owes_recv, Finset.sum_ite_eq', Finset.mem_univ, if_true]
theorem credit_slab (c : Dev nD) (o : Fin 7) : ∑ d : Dev nD, O₀ d (a2aCell c o) () = N' := by
  simp only [owes_slab, Finset.sum_ite_eq', Finset.mem_univ, if_true]

/-- The cells a device waits at for others. -/
def waited : Fin 1 ⊕ (Fin 12 ⊕ Fin 7) → SemLoc sig
  | .inl _ => .reg readySem
  | .inr (.inl k) => .dma (recvSem k)
  | .inr (.inr o) => .dma (a2aSem o)

theorem waited_inj : Function.Injective waited := by
  rintro (i | k | o) (i' | k' | o') h
  · rw [Subsingleton.elim i i']
  · exact absurd h.symm (osem_ne_bar (.inl (.inr k')))
  · exact absurd h.symm (osem_ne_bar (.inr (.inr o')))
  · exact absurd h (osem_ne_bar (.inl (.inr k)))
  all_goals have h' := congrArg kind h
  all_goals simp only [waited, kind_recv, kind_slab, Kind.recv.injEq, Kind.slab.injEq, reduceCtorEq] at h'
  · rw [h']
  · exact absurd h (osem_ne_bar (.inr (.inr o)))
  · rw [h']

theorem creds_ok (c : Dev nD) : (Pipeline.launchCred O₀ c : sProp 𝕄) ⊢ creds c := by
  unfold Pipeline.launchCred creds
  have hs (Φ : SemLoc sig → sProp 𝕄) : (bigSep Finset.univ Φ : sProp 𝕄) ⊢ bigSep (Finset.univ.map ⟨waited, waited_inj⟩) Φ := bigSep_subset (Finset.subset_univ _)
  refine (hs _).trans ?_
  rw [bigSep_map, bigSep_univ_sum, bigSep_univ_sum]
  refine Entails.of_eq ?_
  have e1 : (bigSep Finset.univ fun i : Fin 1 => (cred (tallyOn ((c : Thread nD τ), waited (.inl i)) (launchCredit (Pipeline.owing O₀) 0 ((c : Thread nD τ), waited (.inl i)))) : sProp 𝕄))
      = cred (tallyAt (barCell c) () 3) :=
    (show (Finset.univ : Finset (Fin 1)) = {0} from rfl) ▸ (bigSep_singleton.trans (congrArg _ (credit_at _ _ (credit_bar c))))
  have e2 : (bigSep Finset.univ fun k : Fin 12 => (cred (tallyOn ((c : Thread nD τ), waited (.inr (.inl k))) (launchCredit (Pipeline.owing O₀) 0 ((c : Thread nD τ), waited (.inr (.inl k))))) : sProp 𝕄))
      = bigSep Finset.univ fun k : Fin 12 => cred (tallyAt (recvCell c k) () N) :=
    bigSep_congr fun k _ => congrArg _ (credit_at _ _ (credit_recv c k))
  have e3 : (bigSep Finset.univ fun o : Fin 7 => (cred (tallyOn ((c : Thread nD τ), waited (.inr (.inr o))) (launchCredit (Pipeline.owing O₀) 0 ((c : Thread nD τ), waited (.inr (.inr o))))) : sProp 𝕄))
      = bigSep Finset.univ fun o : Fin 7 => cred (tallyAt (a2aCell c o) () N') :=
    bigSep_congr fun o _ => congrArg _ (credit_at _ _ (credit_slab c o))
  rw [← e1, ← e2, ← e3]
  rfl

end Cert.KernelIdeal.Steps
-- ==== Proof.KernelIdeal.Region.lean ====
/-
# The launch's proof data

What a device's buffers hold before and after the launch, and the body's obligation to the pipeline.
-/
module

public import proofs.«01_k».proof.Proof.KernelIdeal.Dealing
public import proofs.«01_k».proof.Proof.KernelIdeal.Body
public import proofs.«01_k».proof.Proof.Gen.KernelIdeal.Frame
public import Idealize.ShloMosaic.Lib.Pipeline.RegionTalk
public import Idealize.ShloMosaic.Lib.Pipeline.ValueKit.Geometry

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (l : Loc nD τ sig) → Buf (Elt F) l)

/-! ## The buffers -/

/-- A device's buffers as launched. -/
def V₀ (c : Dev nD) : Valuation τ sig (Elt F) := fun b => m (c, b)
/-- Its buffers after the host's casts. -/
def V₁ (c : Dev nD) : Valuation τ sig (Elt F) := StableHlo.after hostOps0 (V₀ m c)

/-- The blocks the launch reads: the casts' results. -/
def ins : Ins F where
  x c := V m c main_v1
  win l c := match l with
    | 0 => V m c main_v2
    | 1 => V m c main_v4
    | _ => V m c main_v6
  wout l c := match l with
    | 0 => V m c main_v3
    | 1 => V m c main_v5
    | _ => V m c main_v7

/-- Its buffers after the launch: the result's block is written, nothing else changes. -/
def V₂ (c : Dev nD) : Valuation τ sig (Elt F) := Function.update (V₁ m c) (Proc.devRef .tc main_v8) (out (ins m) c)

theorem V₂_v8 (c : Dev nD) : V₂ m c (Proc.devRef .tc main_v8) = out (ins m) c := by
  unfold V₂
  exact Function.update_self _ _ _
theorem V₂_of_ne (c : Dev nD) {b : DevRef τ sig} (h : b ≠ Proc.devRef .tc main_v8) : V₂ m c b = V₁ m c b := by
  unfold V₂
  exact Function.update_of_ne h _ _

/-! ## The proof data -/

/-- A device before its body runs, and after. -/
def atStart (c : Dev nD) : sProp 𝕄 :=
  iprop(((∃ κ, know (ins m) κ) ∗ entry c ∗ ∃ A, accPts (F := F) c A) ∗ ∃ r, prngReg c r)
def atEnd (c : Dev nD) : sProp 𝕄 := iprop((exit' (ins m) c ∗ ∃ A, accPts c A) ∗ ∃ r, prngReg c r)

def dat (c : Dev nD) : Pipeline.Dat τ (Elt F) Unit ℕ UU ℕ cfg0 c where
  A w := V m c (Pipeline.arrRef spec0 w)
  after w _ := match w with
    | ⟨0, _⟩ => (ins m).x c
    | ⟨1, _⟩ => (ins m).win 0 c
    | ⟨2, _⟩ => (ins m).wout 0 c
    | ⟨3, _⟩ => (ins m).win 1 c
    | ⟨4, _⟩ => (ins m).wout 1 c
    | ⟨5, _⟩ => (ins m).win 2 c
    | ⟨6, _⟩ => (ins m).wout 2 c
    | ⟨7, _⟩ => out (ins m) c
  Φ t := if t.val = 0 then atStart m c else atEnd m c
  q _ := fullShare
  owed t := if t.val = 0 then O₀ c else 0

abbrev adm : (p : Fin 1) → (pcfgs (F := F) p).Adm := fun p => (cfgs p).toPCfg_adm
def pdats : (p : Fin 1) → (c : Dev nD) → Pipeline.Dat τ (Elt F) Unit ℕ UU ℕ (Pipeline.pin (pcfgs (F := F)) adm p) c
  | 0 => dat m

theorem owed_zero (c : Dev nD) : (dat m c).owed 0 = O₀ c := by
  show (if (0 : Fin (cfg0.N + 1)).val = 0 then O₀ c else 0) = O₀ c
  exact if_pos rfl
theorem owed_first (c : Dev nD) : (dat m c).owed t0_0.castSucc = O₀ c := by
  show (if (t0_0.castSucc : Fin (cfg0.N + 1)).val = 0 then O₀ c else 0) = O₀ c
  exact if_pos rfl
theorem owed_last (c : Dev nD) : (dat m c).owed (Fin.last _) = 0 := by
  show (if (Fin.last cfg0.N).val = 0 then O₀ c else 0) = 0
  rw [Fin.val_last, if_neg (by rw [show cfg0.N = 1 from N_0]; decide)]
theorem owed_succ (c : Dev nD) : (dat m c).owed t0_0.succ = 0 := owed_last m c
theorem Φ_first (c : Dev nD) : (dat m c).Φ 0 = atStart m c := rfl
theorem Φ_last (c : Dev nD) : (dat m c).Φ (Fin.last _) = atEnd m c := by
  show (if (Fin.last cfg0.N).val = 0 then atStart m c else atEnd m c) = _
  rw [Fin.val_last, if_neg (by rw [show cfg0.N = 1 from N_0]; decide)]

theorem owes_start (c : Dev nD) : ((dat m c).owesAt () t0_0.castSucc : sProp 𝕄) ⊢ debt c (O₀ c) := by
  unfold Pipeline.Dat.owesAt Pipeline.owesWithin debt
  rw [owed_first]
  iintro ⟨%W, -, HO⟩
  iexists W
  iexact HO
theorem owes_end (c : Dev nD) : debt c 0 ⊢ ((dat m c).owesAt () t0_0.succ : sProp 𝕄) := by
  unfold Pipeline.Dat.owesAt Pipeline.owesWithin Pipeline.Dat.bound debt
  rw [owed_succ, show (dat m c).recorded t0_0.succ = Set.univ from rfl]
  iintro ⟨%W, HO⟩
  iexists W
  isplitr; · ipureintro; exact fun _ _ => Or.inl trivial
  iexact HO

/-! ## What the staging buffers hold when the body runs -/

/-- Every window's one block starts at its array's origin. -/
theorem at_origin : ∀ (w : Fin cfg0.W) (a : Fin (cfg0.win w).shape.rank), (cfg0.win w).index t0_0 a = 0 := by decide +kernel
theorem emb_val (w : Fin cfg0.W) (i) (a : Fin (cfg0.win w).shape.rank) : (((cfg0.win w).rect t0_0).emb i a).val = (i a).val :=
  Pipeline.Window.rect_emb_val_of_index_zero _ _ _ (at_origin w a) i

theorem before_0 (c : Dev nD) (d) : (dat m c).before 0 t0_0 d = (ins m).x c := by
  unfold Pipeline.Dat.before
  rw [if_pos (fetch0_0 t0_0)]
  funext i
  exact congrArg (V m c main_v1) (funext fun a => Fin.ext (emb_val 0 i a))
theorem before_1 (c : Dev nD) (d) : (dat m c).before 1 t0_0 d = (ins m).win 0 c := by
  unfold Pipeline.Dat.before
  rw [if_pos (fetch0_1 t0_0)]
  funext i
  exact congrArg (V m c main_v2) (funext fun a => Fin.ext (emb_val 1 i a))
theorem before_2 (c : Dev nD) (d) : (dat m c).before 2 t0_0 d = (ins m).wout 0 c := by
  unfold Pipeline.Dat.before
  rw [if_pos (fetch0_2 t0_0)]
  funext i
  exact congrArg (V m c main_v3) (funext fun a => Fin.ext (emb_val 2 i a))
theorem before_3 (c : Dev nD) (d) : (dat m c).before 3 t0_0 d = (ins m).win 1 c := by
  unfold Pipeline.Dat.before
  rw [if_pos (fetch0_3 t0_0)]
  funext i
  exact congrArg (V m c main_v4) (funext fun a => Fin.ext (emb_val 3 i a))
theorem before_4 (c : Dev nD) (d) : (dat m c).before 4 t0_0 d = (ins m).wout 1 c := by
  unfold Pipeline.Dat.before
  rw [if_pos (fetch0_4 t0_0)]
  funext i
  exact congrArg (V m c main_v5) (funext fun a => Fin.ext (emb_val 4 i a))
theorem before_5 (c : Dev nD) (d) : (dat m c).before 5 t0_0 d = (ins m).win 2 c := by
  unfold Pipeline.Dat.before
  rw [if_pos (fetch0_5 t0_0)]
  funext i
  exact congrArg (V m c main_v6) (funext fun a => Fin.ext (emb_val 5 i a))
theorem before_6 (c : Dev nD) (d) : (dat m c).before 6 t0_0 d = (ins m).wout 2 c := by
  unfold Pipeline.Dat.before
  rw [if_pos (fetch0_6 t0_0)]
  funext i
  exact congrArg (V m c main_v7) (funext fun a => Fin.ext (emb_val 6 i a))

/-! ## The body -/

/-- The staging buffers when the body runs, and when it is done. -/
def staged (c : Dev nD) : sProp 𝕄 := iprop(blocks (ins m) c ∗ ∃ f, pt c cc0_stg7_0 f)
def computed (c : Dev nD) : sProp 𝕄 := iprop(blocks (ins m) c ∗ pt c cc0_stg7_0 (out (ins m) c))

theorem body_run (c : Dev nD) :
    iprop(atStart m c ∗ debt c (O₀ c) ∗ staged m c) ⊢ run c (body (F := F)) fun _ => iprop(atEnd m c ∗ debt c 0 ∗ computed m c) := by
  unfold atStart atEnd staged computed
  iintro ⟨⟨⟨⟨%κ, #HK⟩, He, ⟨%A, HA⟩⟩, Hp⟩, HO, Hbl, ⟨%f, Ho⟩⟩
  iapply (body_ok (ins m) κ c A f fun _ => iprop(((exit' (ins m) c ∗ ∃ A, accPts c A) ∗ ∃ r, prngReg c r) ∗ debt c 0
    ∗ (blocks (ins m) c ∗ pt c cc0_stg7_0 (out (ins m) c))))
  isplitl [He HA HO Hbl Ho]
  · isplitr; · iexact HK
    isplitl [He]; · iexact He
    isplitl [Hbl]; · iexact Hbl
    isplitl [HA]; · iexact HA
    isplitl [Ho] <;> iassumption
  iintro ⟨Hx, Hbl, HA, Ho, HO⟩
  isplitl [Hx HA Hp]
  · isplitl [Hx HA]
    · isplitl [Hx]; · iexact Hx
      iexists _
      iexact HA
    iexact Hp
  isplitl [HO]; · iexact HO
  isplitl [Hbl] <;> iassumption

/-- A staging buffer holding `X`, as the pipeline says it. -/
def stg (c : Dev nD) (b : Ref sig .tc) (X : b.ty.Contents (Elt F)) : sProp 𝕄 := iprop(∃ f, ⌜f = X⌝ ∗ pt c b f)
theorem stg_eq (c : Dev nD) (b : Ref sig .tc) (X : b.ty.Contents (Elt F)) : stg c b X = pt c b X := by
  have h1 : stg c b X ⊢ pt c b X := by
    unfold stg
    iintro ⟨%f, %h, H⟩
    subst h
    iexact H
  have h2 : pt c b X ⊢ stg c b X := by
    unfold stg
    iintro H
    iexists X
    isplitr; · ipureintro; rfl
    iexact H
  exact BI.equiv_iff.mp ⟨h1, h2⟩

/-- The staging buffers, window by window. -/
def windowsBefore (c : Dev nD) : sProp 𝕄 :=
  iprop((∃ d, stg c cc0_stg0_0 ((dat m c).before 0 t0_0 d)) ∗ (∃ d, stg c cc0_stg1_0 ((dat m c).before 1 t0_0 d))
    ∗ (∃ d, stg c cc0_stg2_0 ((dat m c).before 2 t0_0 d)) ∗ (∃ d, stg c cc0_stg3_0 ((dat m c).before 3 t0_0 d))
    ∗ (∃ d, stg c cc0_stg4_0 ((dat m c).before 4 t0_0 d)) ∗ (∃ d, stg c cc0_stg5_0 ((dat m c).before 5 t0_0 d))
    ∗ (∃ d, stg c cc0_stg6_0 ((dat m c).before 6 t0_0 d)) ∗ (∃ d, stg c cc0_stg7_0 ((dat m c).before 7 t0_0 d)))
def windowsAfter (c : Dev nD) : sProp 𝕄 :=
  iprop(stg c cc0_stg0_0 ((ins m).x c) ∗ stg c cc0_stg1_0 ((ins m).win 0 c) ∗ stg c cc0_stg2_0 ((ins m).wout 0 c)
    ∗ stg c cc0_stg3_0 ((ins m).win 1 c) ∗ stg c cc0_stg4_0 ((ins m).wout 1 c) ∗ stg c cc0_stg5_0 ((ins m).win 2 c)
    ∗ stg c cc0_stg6_0 ((ins m).wout 2 c) ∗ stg c cc0_stg7_0 (out (ins m) c))

theorem windows_staged (c : Dev nD) : windowsBefore m c ⊢ staged m c := by
  unfold windowsBefore staged blocks inputs
  simp only [stg_eq, before_0, before_1, before_2, before_3, before_4, before_5, before_6]
  iintro ⟨⟨%_, H0⟩, ⟨%_, H1⟩, ⟨%_, H2⟩, ⟨%_, H3⟩, ⟨%_, H4⟩, ⟨%_, H5⟩, ⟨%_, H6⟩, ⟨%d, H7⟩⟩
  isplitr [H7]
  · isplitl [H0 H1 H2]
    · isplitl [H0]; · iexact H0
      isplitl [H1] <;> iassumption
    isplitl [H3 H4]; · isplitl [H3] <;> iassumption
    isplitl [H5] <;> iassumption
  iexists _
  iexact H7
theorem windows_computed (c : Dev nD) : computed m c ⊢ windowsAfter m c := by
  unfold windowsAfter computed blocks inputs
  simp only [stg_eq]
  iintro ⟨⟨⟨H0, H1, H2⟩, ⟨H3, H4⟩, H5, H6⟩, H7⟩
  isplitl [H0]; · iexact H0
  isplitl [H1]; · iexact H1
  isplitl [H2]; · iexact H2
  isplitl [H3]; · iexact H3
  isplitl [H4]; · iexact H4
  isplitl [H5]; · iexact H5
  isplitl [H6] <;> iassumption

theorem body_whole (c : Dev nD) :
    iprop(atStart m c ∗ (dat m c).owesAt () t0_0.castSucc ∗ windowsBefore m c)
      ⊢ run c (body (F := F)) fun _ => iprop(atEnd m c ∗ (dat m c).owesAt () t0_0.succ ∗ windowsAfter m c) :=
  (sep_mono_right (BIClass.sep_mono (owes_start m c) (windows_staged m c))).trans ((body_run m c).trans
    (wp_mono _ _ _ fun _ => sep_mono_right (BIClass.sep_mono (owes_end m c) (windows_computed m c))))

set_option maxRecDepth 8000 in
theorem body_obligation (c : Dev nD) : Pipeline.BodyObligation (dat m c) (defs₀ (F := F)) 𝒱₀ () Set.univ := fun t => by
  obtain rfl := fin_N0 t
  rw [bigSep_W0, bigSep_W0]
  simp only [owns_whole_eq]
  show iprop(atStart m c ∗ (dat m c).owesAt () t0_0.castSucc ∗ windowsBefore m c) ⊢ run c (body (F := F)) _
  exact body_whole m c

end Cert.KernelIdeal.Steps
-- ==== Proof.KernelIdeal.Run.lean ====
/-
# The run

The program on its devices, from any memory with every semaphore at zero: what every weakly fair execution ends with.
-/
module

public import proofs.«01_k».proof.Proof.KernelIdeal.Region

@[expose] public section

noncomputable section

namespace Cert.KernelIdeal.Steps

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (l : Loc nD τ sig) → Buf (Elt F) l) (ρ : Dev nD → PrngReg)

/-! ## The launch as a segment -/

/-- The arrays the launch reads and writes, and a device's other buffers: the program's arguments. -/
abbrev arrs : Finset (DevRef τ sig) := Pipeline.arrRefs (τ := τ) spec0
abbrev args : Finset (DevRef τ sig) := Pipeline.ucRefs τ sig \ arrs

theorem arrs_sub : arrs ⊆ Pipeline.ucRefs τ sig := Pipeline.arrRefs_sub_ucRefs spec0 winFacts0.arr_unscoped

theorem v8_mem : Proc.devRef .tc main_v8 ∈ arrs :=
  Finset.mem_map_of_mem _ (Finset.mem_image.mpr ⟨(7 : Fin 8), Finset.mem_univ _, rfl⟩)

theorem V₂_args (c : Dev nD) (b : DevRef τ sig) (hb : b ∈ args) : V₂ m c b = V₁ m c b :=
  V₂_of_ne m c fun h => (Finset.mem_sdiff.mp hb).2 (h ▸ v8_mem)

theorem arr_first (c : Dev nD) (w : Fin 8) : (dat m c).arrAt w 0 = V₁ m c (Proc.devRef .tc (Pipeline.arrRef spec0 w)) := rfl

/-- An input array is not written. -/
theorem arr_in (c : Dev nD) (w : Fin 8) (hw : w ≠ 7) : (dat m c).arrAt w cfg0.N = V₂ m c (Proc.devRef .tc (Pipeline.arrRef spec0 w)) := by
  have hin : ∀ w : Fin 8, w ≠ 7 → (cfg0.win w).isOut = false := by decide
  have hne : ∀ w : Fin 8, w ≠ 7 → Pipeline.arrRef spec0 w ≠ main_v8 := by decide
  rw [(dat m c).arrAt_in w (hin w hw), V₂_of_ne m c (StableHlo.devRef_ne_of_ne (hne w hw))]
  rfl
/-- The result array ends as its one block. -/
theorem arr_out (c : Dev nD) : (dat m c).arrAt 7 cfg0.N = out (ins m) c :=
  Pipeline.Dat.arrAt_eq_of_after_last (dat m c) 7 t0_0 (by decide +kernel) _ fun _ => rfl

theorem arr_last (c : Dev nD) (w : Fin 8) : (dat m c).arrAt w cfg0.N = V₂ m c (Proc.devRef .tc (Pipeline.arrRef spec0 w)) := by
  by_cases hw : w = 7
  · subst hw
    exact (arr_out m c).trans (V₂_v8 m c).symm
  · exact arr_in m c w hw

theorem starts (c : Dev nD) : iprop(Pipeline.scopedRest spec0 c ∗ (∃ r, prngReg c r) ∗ StableHlo.held (c.tc : Thread nD τ) ∅ (V₁ m c) ∗ inside (ins m) c)
    ⊢ (dat m c).Φ 0 := by
  rw [Φ_first]
  unfold atStart
  iintro ⟨Hs, Hp, -, Hi⟩
  isplitl [Hs Hi]
  · iapply (entry_ok (ins m) c)
    isplitl [Hs] <;> iassumption
  iexact Hp
theorem ends (c : Dev nD) : (dat m c).Φ (Fin.last cfg0.N)
    ⊢ iprop(Pipeline.scopedRest spec0 c ∗ (∃ r, prngReg c r) ∗ StableHlo.held (c.tc : Thread nD τ) ∅ (V₂ m c) ∗ Pipeline.ownSems0 osem c ∗ semVal (barCell c) 0) := by
  rw [Φ_last]
  unfold atEnd
  iintro ⟨⟨He, ⟨%A, HA⟩⟩, Hp⟩
  ihave H := (exit_ok (ins m) c A) $$ [He HA]
  · isplitl [He] <;> iassumption
  icases H with ⟨Hs, Ho, Hb⟩
  isplitl [Hs]; · iexact Hs
  isplitl [Hp]; · iexact Hp
  isplitr
  · unfold StableHlo.held
    rw [BI.bigSep_empty]
    iempintro
  isplitl [Ho] <;> iassumption

/-- Whatever a device owes, it owes above its staging semaphores. -/
theorem owed_above (c : Dev nD) (t : Fin (cfg0.N + 1)) (g : GSem nD τ sig) (u : Unit) (h : 0 < (dat m c).owed t g u) : u ∈ L g ∧ 0 < lv g u := by
  have e : (dat m c).owed t = if t.val = 0 then O₀ c else 0 := rfl
  rw [e] at h
  split at h
  · exact O₀_lev h
  · exact absurd h (Nat.lt_irrefl 0)

theorem staging_low (c : Dev nD) : ∀ (w : Fin cfg0.W) (s : Fin (cfg0.win w).nbuf), lv ((c : Thread nD τ), .dma ((cfg0.win w).sem s)) () ≤ 0 :=
  (by decide : ∀ (w : Fin cfg0.W) (s : Fin (cfg0.win w).nbuf), levOf (kind (.dma ((cfg0.win w).sem s))) ≤ 0)

set_option backward.isDefEq.respectTransparency.types false in
/-- The launch, entered with what `before'` deals and left with the barrier's semaphore at zero. -/
def region : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ args (Finset.empty_subset _) (Pipeline.LaunchFacts.toP launch0) rfl (fun c => (body_obligation m c).loose)
    (fun _ => 0) O₀ (fun c => (owed_zero m c).trans (zero_add _).symm) (owed_last m) (fun _ => rfl) (fun c w => (dat m c).share_full (fun _ => rfl) w)
    (V₁ m) (V₂ m) (fun c b hb => V₂_args m c b (Finset.mem_sdiff.mp hb).1)
    (before' (ins m)) (fun c => semVal (barCell c) 0) (inside (ins m)) (fun c => semVal (barCell c) 0) (opens_ok (ins m)) (starts m) (ends m)
    (fun c => by iintro H; imodintro; iexact H)
    (fun _ => 0)
    ⟨fun c w s => by rw [L_tc]; exact Finset.mem_singleton_self _, fun c w s => staging_low c w s, fun c t g i h => owed_above m c t g i h⟩
    (fun _ => iprop(emp))
    (arr_first m) (arr_last m)

/-! ## The program as its segments -/

/-- What a device holds before the launch, beside its arrays. -/
def beside (c : Dev nD) : sProp 𝕄 := iprop((∃ r, prngReg c r) ∗ before' (ins m) c ∗ ∃ W, owes (c : Thread nD τ) (O₀ c) W)

def host : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) (List.forall_iff_forall_mem.mp hostOps0_fresh) (V₀ m) (beside m)

def segs : List (Pipeline.Seg (pcfgs (F := F)) adm (pdats m) () defs₀ 𝒱₀ L lv) := [.host (host m), .region (region m)]

abbrev T₀ (c : Dev nD) : sProp 𝕄 := iprop(StableHlo.held (c : Thread nD τ) (Pipeline.ucRefs τ sig) (V₀ m c) ∗ beside m c)
abbrev Tₙ (c : Dev nD) : sProp 𝕄 := iprop(StableHlo.held (c : Thread nD τ) (Pipeline.ucRefs τ sig) (V₂ m c) ∗ semVal (barCell c) 0)

theorem arrays_split (c : Dev nD) (V : Valuation τ sig (Elt F)) : (StableHlo.held (c : Thread nD τ) (Pipeline.ucRefs τ sig) V : sProp 𝕄)
    = iprop(StableHlo.held (c : Thread nD τ) arrs V ∗ StableHlo.held (c : Thread nD τ) args V) := by
  rw [StableHlo.held_sub_split (c : Thread nD τ) arrs_sub V]

theorem into_region (c : Dev nD) : iprop(StableHlo.held (c : Thread nD τ) (Pipeline.ucRefs τ sig) (V₁ m c) ∗ beside m c) ⊢ ((region m).pre c : sProp 𝕄) := by
  show _ ⊢ iprop(StableHlo.held (c : Thread nD τ) arrs (V₁ m c) ∗ (∃ r, prngReg c r) ∗ (StableHlo.held (c : Thread nD τ) args (V₁ m c) ∗ emp)
      ∗ before' (ins m) c ∗ ∃ W, owes (c : Thread nD τ) (0 + O₀ c) W)
  rw [arrays_split, zero_add]
  unfold beside
  iintro ⟨⟨H1, H2⟩, Hp, Hb, HO⟩
  isplitl [H1]; · iexact H1
  isplitl [Hp]; · iexact Hp
  isplitl [H2]
  · isplitl [H2]; · iexact H2
    iempintro
  isplitl [Hb] <;> iassumption
theorem out_of_region (c : Dev nD) : ((region m).post c : sProp 𝕄) ⊢ iprop(Tₙ m c ∗ ∃ W, owes (c : Thread nD τ) (0 : CellTallies nD τ sig Unit) W) := by
  show iprop(StableHlo.held (c : Thread nD τ) arrs (V₂ m c) ∗ (∃ r, prngReg c r) ∗ (StableHlo.held (c : Thread nD τ) args (V₂ m c) ∗ emp)
      ∗ semVal (barCell c) 0 ∗ ∃ W, owes (c : Thread nD τ) (0 : CellTallies nD τ sig Unit) W) ⊢ _
  unfold Tₙ
  rw [arrays_split]
  iintro ⟨H1, -, ⟨H2, -⟩, Hb, HO⟩
  isplitr [HO]
  · isplitr [Hb]
    · isplitl [H1] <;> iassumption
    iexact Hb
  iexact HO

/-! ## What the launch starts from -/

def allGhost : UU :=
  (initOf (Pipeline.cells (Pipeline.pin (pcfgs (F := F)) adm) cellOf_inj) (Pipeline.launchToks (Pipeline.pin (pcfgs (F := F)) adm) cellOf_inj),
    launchOf barCells jobCells toks)

/-- A resource of one device, as a family over the devices. -/
def onDev (c₀ : Dev nD) (X : sProp 𝕄) (c : Dev nD) : sProp 𝕄 := if c = c₀ then X else iprop(emp)
theorem all_onDev (c₀ : Dev nD) (X : sProp 𝕄) : bigSep Finset.univ (onDev c₀ X) = X := by
  rw [bigSep_univ_at _ c₀, bigSep_congr (s := Finset.univ.erase c₀) (Ψ := fun _ => (BI.emp : sProp 𝕄)) fun c hc => by
    unfold onDev; rw [if_neg (Finset.ne_of_mem_erase hc)]; rfl, BI.bigSep_emp_const]
  unfold onDev
  rw [if_pos rfl]
  exact BI.equiv_iff.mp sep_emp

def ghost : Dev nD → sProp 𝕄 := onDev 0 (BI.own (ER (launchOf barCells jobCells toks)))

theorem unscopedSems0_eq (c : Dev nD) : (unscopedSems0 c : sProp 𝕄) = semVal (barCell c) 0 := by
  unfold unscopedSems0
  rw [show (Finset.univ.filter fun sm : SemLoc sig => ¬ sm.isScoped .tc) = {.reg readySem} from by decide, bigSep_singleton]

/-- What of a device's start is not the protocol's. -/
def plain (c : Dev nD) : sProp 𝕄 :=
  iprop(StableHlo.held (c : Thread nD τ) (Pipeline.ucRefs τ sig) (V₀ m c) ∗ creds c ∗ owes (c : Thread nD τ) (O₀ c) ∅ ∗ ∃ r, prngReg c r)
/-- What a device starts with. -/
def given (c : Dev nD) : sProp 𝕄 :=
  iprop(unscopedBufs c (fun b => m ((c : Thread nD τ).loc b)) ∗ unscopedSems0 c ∗ owes (c : Thread nD τ) (O₀ c) ∅ ∗ Pipeline.launchCred O₀ c
    ∗ prngReg c (ρ c) ∗ ghost c)

theorem given_ok (c : Dev nD) : (given m ρ c : sProp 𝕄) ⊢ iprop(plain m c ∗ semVal (barCell c) 0 ∗ ghost c) := by
  unfold given plain
  rw [show (unscopedBufs c (fun b => m ((c : Thread nD τ).loc b)) : sProp 𝕄) = StableHlo.held (c : Thread nD τ) (Pipeline.ucRefs τ sig) (V₀ m c) from
    Pipeline.unscopedBufs_held c (V₀ m c), unscopedSems0_eq]
  iintro ⟨Hh, Hs, HO, Hc, Hp, HG⟩
  isplitr [Hs HG]
  · isplitl [Hh]; · iexact Hh
    isplitl [Hc]; · iapply (creds_ok c); iexact Hc
    isplitl [HO]; · iexact HO
    iexists (ρ c); iexact Hp
  isplitl [Hs] <;> iassumption

theorem given_all : (bigSep Finset.univ (given m ρ) : sProp 𝕄)
    ⊢ iprop(bigSep Finset.univ (plain m) ∗ (bigSep barCells fun g => semVal g 0) ∗ BI.own (ER (launchOf barCells jobCells toks))) := by
  have h : (bigSep Finset.univ (given m ρ) : sProp 𝕄) ⊢ bigSep Finset.univ fun c => iprop(plain m c ∗ semVal (barCell c) 0 ∗ ghost c) :=
    bigSep_mono fun c _ => given_ok m ρ c
  refine h.trans (Entails.of_eq ?_)
  rw [bigSep_sep', bigSep_sep']
  unfold ghost
  rw [all_onDev, bigSep_map]
  rfl

theorem linear_all : iprop((bigSep barCells fun g => atPos ER g 0 ∅ 0) ∗ (bigSep jobCells fun g => openTok ER g) ∗ bigSep toks fun x => dutyTok ER x.1 x.2.1 x.2.2)
    ⊢ (bigSep Finset.univ linear : sProp 𝕄) := by
  refine Entails.of_eq ?_
  unfold linear
  rw [bigSep_sep', bigSep_sep', toks_dealt, bigSep_map, bigSep_map, bigSep_univ_prod]
  rfl

theorem T₀_intro (κ : GSem nD τ sig → ℕ) (c : Dev nD) : iprop(recs (ins m) κ ∗ (linear c ∗ plain m c)) ⊢ (T₀ m c : sProp 𝕄) := by
  unfold plain T₀ beside before'
  iintro ⟨HR, Hl, Hh, Hc, HO, Hp⟩
  isplitl [Hh]; · iexact Hh
  isplitl [Hp]; · iexact Hp
  isplitr [HO]
  · iexists κ
    isplitl [HR]; · iexact HR
    isplitl [Hl] <;> iassumption
  iexists ∅; iexact HO

theorem dealt_out : iprop(bigSep Finset.univ (given m ρ) ∗ levAts L lv) ⊢ (|={Set.univ}=> bigSep Finset.univ (T₀ m) : sProp 𝕄) := by
  iintro ⟨H, -⟩
  ihave H' := (given_all m ρ) $$ H
  icases H' with ⟨HB, Hv, Hu⟩
  imod (Rounds.fund_launch ER (sched (ins m)) disjoint_cells (fun g _ h => h) toks) $$ [Hv Hu] with ⟨%κ, -, #Hinv, #Hr, Hat, Hopen, Htok⟩
  · isplitl [Hv] <;> iassumption
  imodintro
  iapply (bigSep_with_persistent (R := recs (ins m) κ) (Φ := fun c => iprop(linear c ∗ plain m c)) fun c _ => T₀_intro m κ c)
  isplitr
  · unfold recs
    isplitr; · iexact Hinv
    iexact Hr
  iapply (Entails.of_eq (bigSep_sep' (M := 𝕄) Finset.univ (fun c : Dev nD => linear c) fun c => plain m c).symm)
  isplitr [HB]
  · iapply linear_all
    isplitl [Hat]; · iexact Hat
    isplitl [Hopen] <;> iassumption
  iexact HB

theorem allGhost_own : (ownU (allGhost (F := F)) : sProp 𝕄)
    ⊢ |={Set.univ}=> iprop(BI.own (EP (initOf (Pipeline.cells (Pipeline.pin (pcfgs (F := F)) adm) cellOf_inj) (Pipeline.launchToks (Pipeline.pin (pcfgs (F := F)) adm) cellOf_inj)))
      ∗ bigSep Finset.univ ghost) := by
  unfold allGhost ghost
  rw [all_onDev]
  iintro Hu
  ihave H := (ownU_pair _ _) $$ Hu
  icases H with ⟨HP, HX⟩
  imodintro
  isplitl [HP] <;> iassumption

/-! ## The end -/

/-- What a device's memory ends at. -/
def ended (c : Dev nD) (s : MemSt nD τ sig (Elt F)) : Prop := (∀ b ∈ Pipeline.ucRefs τ sig, s.mem (c, b) = V₂ m c b) ∧ s.sem (barCell c) = 0

theorem end_ok (c : Dev nD) (s' : Phys nD τ sig (Elt F)) : iprop(Tₙ m c ∗ SI s') ⊢ (|={Set.univ}=> iprop(⌜ended m c s'.mem⌝ ∗ SI s') : sProp 𝕄) := by
  unfold Tₙ ended
  iintro ⟨⟨Hh, Hb⟩, HSI⟩
  icombine HSI Hb gives %hb
  ihave H := (pointsTo_read_all (Pipeline.ucRefs τ sig) (fun b => ((c, b) : Loc nD τ sig)) (V₂ m c) s') $$ [Hh HSI]
  · isplitl [Hh]; · unfold StableHlo.held; iexact Hh
    iexact HSI
  icases H with ⟨%h, HSI⟩
  imodintro
  isplitr
  · ipureintro
    exact ⟨h, by simpa using hb⟩
  iexact HSI

theorem unscoped_sem : ∀ sm : SemLoc sig, sm.isScoped .tc = false → sm = .reg readySem := by decide

set_option backward.isDefEq.respectTransparency.types false in
/-- Every weakly fair execution from any memory with every semaphore at zero ends with the arrays of `V₂` and every semaphore at zero. -/
theorem run_all : θ_run defs (onTc (τ := τ) (main (F := F))) ⟨m, fun _ => 0, ρ⟩
    (fun r => (∀ c : Dev nD, ∀ b ∈ Pipeline.ucRefs τ sig, r.2.mem (c, b) = V₂ m c b) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (host m) (region m) rfl c]; exact BI.Entails.refl _)
    (by simp only [segs, Pipeline.Seg.pipes_host, Pipeline.Seg.pipes_region, Pipeline.Seg.pipes_nil]; decide)
    (O₀ := O₀) (hL := L_of_ne) (G := ghost) (u₀ := allGhost (F := F)) (hu₀ := allGhost_own)
    (T₀ := T₀ m) (Tₙ := Tₙ m)
    (hch := ⟨fun c => .rfl, fun c => into_region m c, fun c => out_of_region m c⟩)
    (hinit := dealt_out m ρ) (QY := ended m) (hfin := end_ok m)
    (hQ := fun s h hs => ⟨fun c => (h c).1, sem_eq_zero hs fun c sm hsm => by
      obtain rfl := unscoped_sem sm hsm
      exact (h c).2⟩)

/-! ## The program's results -/

theorem arg_mem (b : Ref sig .tc) (h : b.isScoped = false) : Proc.devRef .tc b ∈ Pipeline.ucRefs τ sig :=
  Finset.mem_filter.mpr ⟨StableHlo.devRef_mem_tcRefs b, by rw [Proc.isScoped_devRef, h]; exact Bool.false_ne_true⟩

/-- The program ends with its arguments as they were, the result at `out`, and every semaphore at zero. -/
theorem run_main : θ_run defs (onTc (τ := τ) (main (F := F))) ⟨m, fun _ => 0, ρ⟩
    (fun r => (∀ c : Dev nD, r.2.mem (c.tc.loc main_v8) = out (ins m) c
        ∧ r.2.mem (c.tc.loc main_arg0) = m (c.tc.loc main_arg0) ∧ r.2.mem (c.tc.loc main_arg1) = m (c.tc.loc main_arg1)
        ∧ r.2.mem (c.tc.loc main_arg2) = m (c.tc.loc main_arg2) ∧ r.2.mem (c.tc.loc main_arg3) = m (c.tc.loc main_arg3)
        ∧ r.2.mem (c.tc.loc main_arg4) = m (c.tc.loc main_arg4) ∧ r.2.mem (c.tc.loc main_arg5) = m (c.tc.loc main_arg5)
        ∧ r.2.mem (c.tc.loc main_arg6) = m (c.tc.loc main_arg6)) ∧ r.2.sem = fun _ => 0) := by
  refine (θ_run defs (onTc (τ := τ) (main (F := F))) ⟨m, fun _ => 0, ρ⟩).mono ?_ (run_all m ρ)
  intro r h
  refine ⟨fun c => ?_, h.2⟩
  have kept (b : Ref sig .tc) (hb : b.isScoped = false) (hne : b ≠ main_v8) (hV : V m c b = m (c.tc.loc b)) : r.2.mem (c.tc.loc b) = m (c.tc.loc b) :=
    (h.1 c _ (arg_mem b hb)).trans ((V₂_of_ne m c (StableHlo.devRef_ne_of_ne hne)).trans hV)
  exact ⟨(h.1 c _ (arg_mem main_v8 rfl)).trans (V₂_v8 m c),
    kept main_arg0 rfl (by decide) (V_main_arg0 m c), kept main_arg1 rfl (by decide) (V_main_arg1 m c), kept main_arg2 rfl (by decide) (V_main_arg2 m c),
    kept main_arg3 rfl (by decide) (V_main_arg3 m c), kept main_arg4 rfl (by decide) (V_main_arg4 m c), kept main_arg5 rfl (by decide) (V_main_arg5 m c),
    kept main_arg6 rfl (by decide) (V_main_arg6 m c)⟩

end Cert.KernelIdeal.Steps
-- ==== Proof.KernelIdeal.Blocks.lean ====
/-
# What a block's product computes, over the reals

A layer of the perceptron on one row: the row times the first weight, the negative entries replaced by zero, times the
second weight. The products of the kernel are this on the rows of their operands; rounding is the identity.
-/
module

public import proofs.«01_k».proof.Proof.KernelIdeal.Contents
public import Idealize.ShloMosaic.Lib.MatmulPlain
public import Idealize.ShloMosaic.Lib.StackMember
public import Idealize.ShloMosaic.Lib.Pipeline.Value

@[expose] public section

noncomputable section

namespace Cert.KernelIdeal.Steps

open Cert.KernelIdeal Cert.KernelIdeal.Gen
open Idealize.ShloMosaic
open Idealize.ShloMosaic.TcCoe
open Idealize.ShloMosaic.ValueIdx
open scoped BigOperators

/-- A layer on one row, `K` hidden units. -/
def mlp {K : ℕ} (x : Fin 256 → EReal) (A : Fin 256 → Fin K → EReal) (B : Fin K → Fin 256 → EReal) (j : Fin 256) : EReal :=
  ∑ k, max (∑ q, x q * A q k) 0 * B k j

/-- The hidden units in eight groups of 512: the layer is the sum of the groups' layers. -/
theorem mlp_groups (x : Fin 256 → EReal) (A : Fin 256 → Fin 4096 → EReal) (B : Fin 4096 → Fin 256 → EReal) (j : Fin 256) :
    ∑ d : Fin 8, mlp x (fun q (k : Fin 512) => A q ⟨d.val * 512 + k.val, by omega⟩) (fun (k : Fin 512) j => B ⟨d.val * 512 + k.val, by omega⟩ j) j = mlp x A B j := by
  unfold mlp
  rw [← Equiv.sum_comp (finProdFinEquiv : Fin 8 × Fin 512 ≃ Fin (8 * 512)), Fintype.sum_prod_type]
  refine Finset.sum_congr rfl fun d _ => Finset.sum_congr rfl fun k _ => ?_
  have e : (finProdFinEquiv (d, k) : Fin (8 * 512)) = (⟨d.val * 512 + k.val, by omega⟩ : Fin 4096) := Fin.ext (by
    show k.val + 512 * d.val = d.val * 512 + k.val
    omega)
  rw [e]

/-! ## The kernel's products -/

theorem zero_word : (Scalar.ofBits .f32 0x00000000#32 : Ideal .f32) = 0 := Ideal.ofBits_zero_f32

/-- A product onto zeros, at a row and a column. -/
theorem product_at {M K N : ℕ} {φ₁ φ₂ : FTy} (a : FVec Ideal ⟨2, ![M, K]⟩ φ₁) (b : FVec Ideal ⟨2, ![K, N]⟩ φ₂) (r : Fin M) (j : Fin N) :
    matmul (DotDims.plain M K N) none a b (constant ⟨2, ![M, N]⟩ .f32 0x00000000#32) (ix2 r j) = ∑ k : Fin K, a (ix2 r k) * b (ix2 k j) := by
  refine (Ideal.matmul_plain_apply none a b _ r j).trans ?_
  show Ideal.ofBits .f32 0x00000000#32 + _ = _
  rw [Ideal.ofBits_zero_f32, zero_add]

/-- The two products of a half with a device's weights, whatever the half's format. -/
theorem two_products_at {φ : FTy} (a : FVec Ideal S128x256 φ) (w : FVec Ideal S256x512 .bf16) (v : FVec Ideal S512x256 .bf16) (r : Fin 128) (j : Fin 256) :
    matmul dot_S128x512_S512x256_S128x256_1_0_0_1_n_n none
        (truncf .bf16 (maximumf (matmul dot_S128x256_S256x512_S128x512_1_0_0_1_n_n none a w (constant S128x512 .f32 0x00000000#32))
          (broadcast S128x512 (Scalar.ofBits .f32 0x00000000#32))) bitsLt_bf16_f32) v (constant S128x256 .f32 0x00000000#32) (ix2 r j)
      = mlp (fun q => a (ix2 r q)) (fun q k => w (ix2 q k)) (fun k j => v (ix2 k j)) j := by
  refine (product_at (M := 128) (K := 512) (N := 256) _ v r j).trans ?_
  unfold mlp
  refine Finset.sum_congr rfl fun k _ => congrArg (· * _) ?_
  show max (matmul (F := Ideal) dot_S128x256_S256x512_S128x512_1_0_0_1_n_n none a w (constant S128x512 .f32 0x00000000#32) (ix2 r k)) (Scalar.ofBits .f32 0x00000000#32 : Ideal .f32) = _
  rw [zero_word]
  exact congrArg (max · 0) (product_at (M := 128) (K := 256) (N := 512) a w r k)

/-- The first layer's product of a half. -/
theorem pay2_at (a : Vec Ideal S128x256 .bf16) (w : Vec Ideal S256x512 .bf16) (v : Vec Ideal S512x256 .bf16) (r : Fin 128) (j : Fin 256) :
    k0_pay2 a w v (ix2 r j) = mlp (fun q => a (ix2 r q)) (fun q k => w (ix2 q k)) (fun k j => v (ix2 k j)) j := by
  unfold k0_pay2
  simp only [shapeCast_self]
  exact two_products_at a w v r j
/-- A later layer's. -/
theorem pay16_at (a : Vec Ideal S128x256 .f32) (w : Vec Ideal S256x512 .bf16) (v : Vec Ideal S512x256 .bf16) (r : Fin 128) (j : Fin 256) :
    k0_pay16 a w v (ix2 r j) = mlp (fun q => a (ix2 r q)) (fun q k => w (ix2 q k)) (fun k j => v (ix2 k j)) j := by
  unfold k0_pay16
  simp only [shapeCast_self]
  exact two_products_at (φ := .bf16) (truncf .bf16 a bitsLt_bf16_f32) w v r j

/-! ## The exchanges -/

/-- A partner's half, sent and added. -/
theorem add_at (a b : Vec Ideal S128x256 .f32) (i : S128x256.Idx) : k0_pay6 a (k0_pay3 b) i = a i + b i := by
  unfold k0_pay6 k0_pay3
  simp only [shapeCast_self, shapeCast_shapeCast]
  rfl

/-- A device's own rows and the seven slabs sent to it. -/
theorem collect_at (a b₀ b₁ b₂ b₃ b₄ b₅ b₆ : Vec Ideal S32x256 .f32) (i : S32x256.Idx) :
    k0_pay1 (k0_pay43 a (k0_pay36 b₀) (k0_pay36 b₁) (k0_pay36 b₂) (k0_pay36 b₃)) (k0_pay36 b₄) (k0_pay36 b₅) (k0_pay36 b₆) i
      = a i + b₀ i + b₁ i + b₂ i + b₃ i + b₄ i + b₅ i + b₆ i := by
  unfold k0_pay1 k0_pay43 k0_pay36
  simp only [shapeCast_shapeCast]
  rfl

end Cert.KernelIdeal.Steps
-- ==== Proof.KernelIdeal.Sums.lean ====
/-
# What the exchanges leave, over the reals

After a layer's three exchanges every device holds, in each half, the sum of all devices' products; after the last
exchange its own rows of that sum.
-/
module

public import proofs.«01_k».proof.Proof.KernelIdeal.Blocks

@[expose] public section

noncomputable section

namespace Cert.KernelIdeal.Steps

open Cert.KernelIdeal Cert.KernelIdeal.Gen
open Idealize.ShloMosaic
open Idealize.ShloMosaic.TcCoe
open Idealize.ShloMosaic.ValueIdx
open scoped BigOperators

/-- The devices a half has been summed over after `s` exchanges. -/
def heard (h : Fin 2) : ℕ → Dev nD → List (Dev nD)
  | 0 => fun c => [c]
  | s + 1 => fun c => heard h s c ++ heard h s (px (mm (mi h s)) c)

/-- After three exchanges each device has been heard once. -/
theorem heard_all : ∀ (h : Fin 2) (c : Dev nD), (heard h 3 c).Perm (List.finRange nD) := by decide +kernel

theorem bfly_sum (f : Dev nD → Half Ideal) (h : Fin 2) (i : S128x256.Idx) : ∀ (s : ℕ) (c : Dev nD), bfly f h s c i = ((heard h s c).map fun d => f d i).sum
  | 0, c => (add_zero _).symm
  | s + 1, c => by
    show k0_pay6 (bfly f h s c) (k0_pay3 (bfly f h s (px (mm (mi h s)) c))) i = ((heard h s c ++ heard h s (px (mm (mi h s)) c)).map fun d => f d i).sum
    rw [add_at, bfly_sum f h i s, bfly_sum f h i s, List.map_append, List.sum_append]

theorem sum_all (g : Dev nD → EReal) {l : List (Dev nD)} (hl : l.Perm (List.finRange nD)) : (l.map g).sum = ∑ d, g d := by
  rw [(hl.map g).sum_eq, ← List.ofFn_eq_map, List.sum_ofFn]

/-- After a layer's exchanges: the sum over the devices. -/
theorem bfly_all (f : Dev nD → Half Ideal) (h : Fin 2) (c : Dev nD) (i : S128x256.Idx) : bfly f h 3 c i = ∑ d, f d i := by
  rw [bfly_sum, sum_all _ (heard_all h c)]

/-- A device and the senders of its seven slabs are all the devices. -/
theorem senders_all : ∀ c : Dev nD, [c, po 0 c, po 1 c, po 2 c, po 3 c, po 4 c, po 5 c, po 6 c].Perm (List.finRange nD) := by decide +kernel

variable (I : Ins Ideal)

/-- The row of the whole that row `r` of block `c` is. -/
abbrev rowOf (c : Dev nD) (r : Fin 32) : Fin 256 := ⟨c.val * 32 + r.val, by have : c.val < 8 := c.isLt; omega⟩

theorem off2_eq : ∀ c : Dev nD, k0_off2 c = ![32 * c.val, 0] := by decide +kernel

theorem own_at (c : Dev nD) (f : Vec Ideal S256x256 .f32) (r : Fin 32) (j : Fin 256) :
    accM.view.readAt (Elt Ideal) (ownRows c).toLoadRect f (ix2 r j) = f (ix2 (rowOf c r) j) := by
  refine congrArg f (funext fun a => Fin.ext ?_)
  match a with
  | 0 =>
    show k0_off2 c 0 + 1 * r.val = c.val * 32 + r.val
    rw [off2_eq]
    show 32 * c.val + 1 * r.val = _
    omega
  | 1 =>
    show k0_off2 c 1 + 1 * j.val = j.val
    rw [off2_eq]
    show 0 + 1 * j.val = _
    omega

theorem peer_at (c : Dev nD) (o : Fin 7) (f : Vec Ideal S256x256 .f32) (r : Fin 32) (j : Fin 256) :
    accM.view.readAt (Elt Ideal) (peerRows c o).toLoadRect f (ix2 r j) = f (ix2 (rowOf (po o c) r) j) := by
  refine congrArg f (funext fun a => Fin.ext ?_)
  match a with
  | 0 =>
    show k0_off1 c (BitVec.ofNat 32 (1 + o.val)) 0 + 1 * r.val = (po o c).val * 32 + r.val
    rw [off1_eq]
    show 32 * (po o c).val + 1 * r.val = _
    omega
  | 1 =>
    show k0_off1 c (BitVec.ofNat 32 (1 + o.val)) 1 + 1 * j.val = j.val
    rw [off1_eq]
    show 0 + 1 * j.val = _
    omega

/-- The result: the sum over the devices of the last product's rows that are `c`'s. -/
theorem out_at (c : Dev nD) (r : Fin 32) (j : Fin 256) : out I c (ix2 r j) = ∑ d, accFin I d (ix2 (rowOf c r) j) := by
  unfold out slab
  rw [collect_at, own_at, peer_at, peer_at, peer_at, peer_at, peer_at, peer_at, peer_at]
  simp only [po_po]
  rw [← sum_all (fun d => accFin I d (ix2 (rowOf c r) j)) (senders_all c)]
  simp only [List.map_cons, List.map_nil, List.sum_cons, List.sum_nil, add_zero, add_assoc]

end Cert.KernelIdeal.Steps
-- ==== Proof.KernelIdeal.Layers.lean ====
/-
# The layers, one after another

Each device applies a layer to its share of the hidden units. After a layer's exchanges every device's half is that layer's
rows, so the next layer starts from them; the last layer's rows reach the device they belong to.
-/
module

public import proofs.«01_k».proof.Proof.KernelIdeal.Sums

@[expose] public section

noncomputable section

namespace Cert.KernelIdeal.Steps

open Cert.KernelIdeal Cert.KernelIdeal.Gen
open Idealize.ShloMosaic
open Idealize.ShloMosaic.TcCoe
open Idealize.ShloMosaic.ValueIdx
open scoped BigOperators

/-- The rows after `l` layers. -/
def layers (X : Fin 256 → Fin 256 → EReal) (A : ℕ → Fin 256 → Fin 4096 → EReal) (B : ℕ → Fin 4096 → Fin 256 → EReal) : ℕ → Fin 256 → Fin 256 → EReal
  | 0 => X
  | l + 1 => fun R => mlp (layers X A B l R) (A l) (B l)

/-- The hidden unit that unit `k` of device `c` is. -/
abbrev unitOf (c : Dev nD) (k : Fin 512) : Fin 4096 := ⟨c.val * 512 + k.val, by have : c.val < 8 := c.isLt; omega⟩

/-- The blocks are cut from the arrays `X`, `A` and `B`: the input is on every device, the weights by hidden units. -/
structure CutFrom (I : Ins Ideal) (X : Fin 256 → Fin 256 → EReal) (A : ℕ → Fin 256 → Fin 4096 → EReal) (B : ℕ → Fin 4096 → Fin 256 → EReal) : Prop where
  x : ∀ c R q, I.x c (ix2 R q) = X R q
  win : ∀ l c q k, I.win l c (ix2 q k) = A l q (unitOf c k)
  wout : ∀ l c k j, I.wout l c (ix2 k j) = B l (unitOf c k) j

variable {I : Ins Ideal} {X : Fin 256 → Fin 256 → EReal} {A : ℕ → Fin 256 → Fin 4096 → EReal} {B : ℕ → Fin 4096 → Fin 256 → EReal}

/-- The row that row `r` of half `h` is. -/
abbrev halfRow (h : Fin 2) (r : Fin 128) : Fin 256 := ⟨h.val * 128 + r.val, by omega⟩

theorem half_at (h : Fin 2) (f : Vec Ideal S256x256 .bf16) (r : Fin 128) (q : Fin 256) :
    xM.view.readAt (Elt Ideal) (halfR h).toLoadRect f (ix2 r q) = f (ix2 (halfRow h r) q) := by
  refine congrArg f (funext fun a => Fin.ext ?_)
  match a with
  | 0 =>
    show 128 * h.val + 1 * r.val = h.val * 128 + r.val
    omega
  | 1 =>
    show 0 + 1 * q.val = q.val
    omega

/-- The devices' products of layer `l` add up to the layer's rows. -/
theorem part_sum (H : CutFrom I X A B) (h : Fin 2) (r : Fin 128) : ∀ (l : ℕ) (j : Fin 256), ∑ d, part I h l d (ix2 r j) = layers X A B (l + 1) (halfRow h r) j
  | 0, j => by
    refine Eq.trans ?_ (mlp_groups (X (halfRow h r)) (A 0) (B 0) j)
    refine Finset.sum_congr rfl fun d _ => ?_
    refine (pay2_at _ _ _ r j).trans ?_
    have e : (fun q => xM.view.readAt (Elt Ideal) (halfR h).toLoadRect (I.x d) (ix2 r q)) = X (halfRow h r) :=
      funext fun q => (half_at h _ r q).trans (H.x d _ q)
    rw [e]
    simp only [H.win, H.wout]
  | l + 1, j => by
    refine Eq.trans ?_ (mlp_groups (layers X A B (l + 1) (halfRow h r)) (A (l + 1)) (B (l + 1)) j)
    refine Finset.sum_congr rfl fun d _ => ?_
    refine (pay16_at _ _ _ r j).trans ?_
    simp only [bfly_all, part_sum H h r l, H.win, H.wout]

/-- So do the accumulators at the end. -/
theorem accFin_sum (H : CutFrom I X A B) (R j : Fin 256) : ∑ d, accFin I d (ix2 R j) = layers X A B 3 R j := by
  have e : halfRow ⟨R.val / 128, by omega⟩ ⟨R.val % 128, by omega⟩ = R := Fin.ext (by
    show R.val / 128 * 128 + R.val % 128 = R.val
    omega)
  exact (part_sum H ⟨R.val / 128, by omega⟩ ⟨R.val % 128, by omega⟩ 2 j).trans (congrArg (fun R => layers X A B 3 R j) e)

/-- Device `c`'s result: its rows after three layers. -/
theorem out_layers (H : CutFrom I X A B) (c : Dev nD) (r : Fin 32) (j : Fin 256) : out I c (ix2 r j) = layers X A B 3 (rowOf c r) j := by
  rw [out_at, accFin_sum H]

end Cert.KernelIdeal.Steps
-- ==== Proof.KernelIdeal.Value.lean ====
/-
# The reference's result, and the equation

The reference is three layers on whole arrays. The launch reads its arguments' blocks, so its result on each device is the
device's block of rows of the reference's.
-/
module

public import proofs.«01_k».proof.Proof.KernelIdeal.Layers
public import proofs.«01_k».proof.Proof.KernelIdeal.Region
public import proofs.«01_k».proof.Proof.Gen.ReferenceIdeal.Run
public import Idealize.ShloMosaic.Lib.Layout

@[expose] public section

noncomputable section

namespace Cert.KernelIdeal.Steps

open Cert.KernelIdeal Cert.KernelIdeal.Gen
open Idealize.ShloMosaic
open Idealize.ShloMosaic.TcCoe
open Idealize.ShloMosaic.ValueIdx
open scoped BigOperators

/-! ## The reference -/

/-- A layer of the reference, on whole arrays. -/
abbrev refLayer (X : FVec Ideal ReferenceIdeal.S256x256 .f32) (A : FVec Ideal ReferenceIdeal.S256x4096 .f32) (B : FVec Ideal ReferenceIdeal.S4096x256 .f32) :
    FVec Ideal ReferenceIdeal.S256x256 .f32 :=
  Host.dotGeneral ReferenceIdeal.dot_S256x4096_S4096x256_S256x256_1_0_0_1_n_n none
    (maximumf (Host.dotGeneral ReferenceIdeal.dot_S256x256_S256x4096_S256x4096_1_0_0_1_n_n none X A)
      (broadcastInDim ReferenceIdeal.S256x4096 ![] ReferenceIdeal.Gen.bcast_S_S256x4096 (constant ReferenceIdeal.S_ .f32 0x00000000#32))) B

theorem refLayer_at (X : FVec Ideal ReferenceIdeal.S256x256 .f32) (A : FVec Ideal ReferenceIdeal.S256x4096 .f32) (B : FVec Ideal ReferenceIdeal.S4096x256 .f32) (R j : Fin 256) :
    refLayer X A B (ix2 R j) = mlp (fun q => X (ix2 R q)) (fun q k => A (ix2 q k)) (fun k j => B (ix2 k j)) j := by
  refine (StackMember.dotGeneral_plain_apply (m := 256) (k := 4096) (n := 256) none _ B R j).trans ?_
  unfold mlp
  refine Finset.sum_congr rfl fun k _ => congrArg (· * _) ?_
  show max (Host.dotGeneral (F := Ideal) ReferenceIdeal.dot_S256x256_S256x4096_S256x4096_1_0_0_1_n_n none X A (ix2 R k)) (Ideal.ofBits .f32 0x00000000#32) = _
  rw [Ideal.ofBits_zero_f32]
  exact congrArg (max · 0) (StackMember.dotGeneral_plain_apply (m := 256) (k := 256) (n := 4096) none X A R k)

/-- The reference's three layers. -/
abbrev reference (X : FVec Ideal ReferenceIdeal.S256x256 .f32) (A₀ A₁ A₂ : FVec Ideal ReferenceIdeal.S256x4096 .f32) (B₀ B₁ B₂ : FVec Ideal ReferenceIdeal.S4096x256 .f32) :
    FVec Ideal ReferenceIdeal.S256x256 .f32 := refLayer (refLayer (refLayer X A₀ B₀) A₁ B₁) A₂ B₂

/-- One array for each layer. -/
def perLayer {α : Type} (a₀ a₁ a₂ : α) : ℕ → α
  | 0 => a₀
  | 1 => a₁
  | _ => a₂

theorem reference_at (X : FVec Ideal ReferenceIdeal.S256x256 .f32) (A₀ A₁ A₂ : FVec Ideal ReferenceIdeal.S256x4096 .f32) (B₀ B₁ B₂ : FVec Ideal ReferenceIdeal.S4096x256 .f32) (R j : Fin 256) :
    reference X A₀ A₁ A₂ B₀ B₁ B₂ (ix2 R j)
      = layers (fun R q => X (ix2 R q)) (fun l q k => perLayer A₀ A₁ A₂ l (ix2 q k)) (fun l k j => perLayer B₀ B₁ B₂ l (ix2 k j)) 3 R j := by
  unfold reference
  rw [refLayer_at]
  simp only [refLayer_at]
  rfl

/-! ## The launch's operands: the arguments, rounding being the identity -/

variable (m : (l : Loc nD τ sig) → Buf (Elt Ideal) l)

theorem V_v1 (c : Dev nD) : V m c main_v1 = m (c.tc.loc main_arg0) := by unfold Gen.V; after_results; rfl
theorem V_v2 (c : Dev nD) : V m c main_v2 = m (c.tc.loc main_arg1) := by unfold Gen.V; after_results; rfl
theorem V_v3 (c : Dev nD) : V m c main_v3 = m (c.tc.loc main_arg4) := by unfold Gen.V; after_results; rfl
theorem V_v4 (c : Dev nD) : V m c main_v4 = m (c.tc.loc main_arg2) := by unfold Gen.V; after_results; rfl
theorem V_v5 (c : Dev nD) : V m c main_v5 = m (c.tc.loc main_arg5) := by unfold Gen.V; after_results; rfl
theorem V_v6 (c : Dev nD) : V m c main_v6 = m (c.tc.loc main_arg3) := by unfold Gen.V; after_results; rfl
theorem V_v7 (c : Dev nD) : V m c main_v7 = m (c.tc.loc main_arg6) := by unfold Gen.V; after_results; rfl

/-! ## The equation -/

theorem cols_at (v : FVec Ideal ReferenceIdeal.S256x4096 .f32) (c : Dev nD) (q : Fin 256) (k : Fin 512) :
    Layout.block ⟨2, ![256, 512]⟩ ⟨2, ![256, 4096]⟩ 1 8 c v (by decide) (ix2 q k) = v (ix2 q (unitOf c k)) :=
  congrArg v (funext fun a => by match a with | 0 => rfl | 1 => rfl)
theorem rows_at (v : FVec Ideal ReferenceIdeal.S4096x256 .f32) (c : Dev nD) (k : Fin 512) (j : Fin 256) :
    Layout.block ⟨2, ![512, 256]⟩ ⟨2, ![4096, 256]⟩ 0 8 c v (by decide) (ix2 k j) = v (ix2 (unitOf c k) j) :=
  congrArg v (funext fun a => by match a with | 0 => rfl | 1 => rfl)

/-- Each device's result is its block of rows of the reference's. -/
theorem value (X : FVec Ideal ReferenceIdeal.S256x256 .f32) (A₀ A₁ A₂ : FVec Ideal ReferenceIdeal.S256x4096 .f32) (B₀ B₁ B₂ : FVec Ideal ReferenceIdeal.S4096x256 .f32)
    (h : ∀ c : Dev nD, m (c.tc.loc main_arg0) = X
      ∧ m (c.tc.loc main_arg1) = Layout.block ⟨2, ![256, 512]⟩ ⟨2, ![256, 4096]⟩ 1 8 c A₀
      ∧ m (c.tc.loc main_arg2) = Layout.block ⟨2, ![256, 512]⟩ ⟨2, ![256, 4096]⟩ 1 8 c A₁
      ∧ m (c.tc.loc main_arg3) = Layout.block ⟨2, ![256, 512]⟩ ⟨2, ![256, 4096]⟩ 1 8 c A₂
      ∧ m (c.tc.loc main_arg4) = Layout.block ⟨2, ![512, 256]⟩ ⟨2, ![4096, 256]⟩ 0 8 c B₀
      ∧ m (c.tc.loc main_arg5) = Layout.block ⟨2, ![512, 256]⟩ ⟨2, ![4096, 256]⟩ 0 8 c B₁
      ∧ m (c.tc.loc main_arg6) = Layout.block ⟨2, ![512, 256]⟩ ⟨2, ![4096, 256]⟩ 0 8 c B₂) (c : Dev nD) :
    out (ins m) c = Layout.block ⟨2, ![32, 256]⟩ ⟨2, ![256, 256]⟩ 0 8 c (reference X A₀ A₁ A₂ B₀ B₁ B₂) := by
  have H : CutFrom (ins m) (fun R q => X (ix2 R q)) (fun l q k => perLayer A₀ A₁ A₂ l (ix2 q k)) (fun l k j => perLayer B₀ B₁ B₂ l (ix2 k j)) := {
    x := fun c R q => congrFun ((V_v1 m c).trans (h c).1) (ix2 R q)
    win := fun l c q k => match l with
      | 0 => (congrFun ((V_v2 m c).trans (h c).2.1) (ix2 q k)).trans (cols_at A₀ c q k)
      | 1 => (congrFun ((V_v4 m c).trans (h c).2.2.1) (ix2 q k)).trans (cols_at A₁ c q k)
      | _ + 2 => (congrFun ((V_v6 m c).trans (h c).2.2.2.1) (ix2 q k)).trans (cols_at A₂ c q k)
    wout := fun l c k j => match l with
      | 0 => (congrFun ((V_v3 m c).trans (h c).2.2.2.2.1) (ix2 k j)).trans (rows_at B₀ c k j)
      | 1 => (congrFun ((V_v5 m c).trans (h c).2.2.2.2.2.1) (ix2 k j)).trans (rows_at B₁ c k j)
      | _ + 2 => (congrFun ((V_v7 m c).trans (h c).2.2.2.2.2.2) (ix2 k j)).trans (rows_at B₂ c k j) }
  funext i
  obtain ⟨r, j, rfl⟩ : ∃ (r : Fin 32) (j : Fin 256), i = ix2 r j := ⟨i 0, i 1, eq_ix2 i⟩
  refine (out_layers H c r j).trans ((reference_at X A₀ A₁ A₂ B₀ B₁ B₂ (rowOf c r) j).symm.trans ?_)
  exact congrArg (reference X A₀ A₁ A₂ B₀ B₁ B₂) (funext fun a => by match a with | 0 => rfl | 1 => rfl)

end Cert.KernelIdeal.Steps
-- ==== Proof.lean ====
/-
# The claims

Each program runs to its end, leaves its arguments as they were and every semaphore at zero; and over the reals every device's
result is its block of rows of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs, its arguments end unchanged, every semaphore ends at zero. -/
theorem kernel_runs : quiescent_Kernel := fun m g _ =>
  (θ_run _ _ _).mono (fun _ h => ⟨fun c => (h.1 c).2, h.2⟩) (Cert.Kernel.Steps.run_main m g)

/-- The same, over the reals. -/
theorem kernelIdeal_runs : quiescent_KernelIdeal := fun m g _ =>
  (θ_run _ _ _).mono (fun _ h => ⟨fun c => (h.1 c).2, h.2⟩) (Cert.KernelIdeal.Steps.run_main m g)

/-- The reference has no semaphores. -/
theorem reference_runs : quiescent_ReferenceIdeal := fun m g _ =>
  (θ_run _ _ _).mono (fun r h => ⟨fun c => (h c).2, sem_eq_zero_of_no_sems rfl r.2⟩) (Cert.ReferenceIdeal.Value.run m g)

/-- Over the reals every device's result is its block of rows of the reference's result. -/
theorem kernel_value : algebraic_KernelIdeal_ReferenceIdeal := fun m g m' g' _ h =>
  ⟨_, (θ_run _ _ _).mono (fun _ k c => ⟨(k.1 c).1.trans (Cert.KernelIdeal.Steps.value m _ _ _ _ _ _ _ h c), (k.1 c).2⟩) (Cert.KernelIdeal.Steps.run_main m g),
    (θ_run _ _ _).mono (fun _ k => k 0) (Cert.ReferenceIdeal.Value.run m' g')⟩

theorem claim : Cert.Claim :=
  ⟨Cert.Kernel.Gen.facts, Cert.KernelIdeal.Gen.facts, Cert.ReferenceIdeal.Gen.facts, kernel_runs, kernelIdeal_runs, reference_runs, trivial, kernel_value⟩

end Cert.Proof

end
